-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x28x28x1 : Shape := ⟨4, ![8192, 28, 28, 1]⟩
abbrev S8192 : Shape := ⟨1, ![8192]⟩
abbrev S256 : Shape := ⟨1, ![256]⟩
abbrev S3x3x1x16 : Shape := ⟨4, ![3, 3, 1, 16]⟩
abbrev S16 : Shape := ⟨1, ![16]⟩
abbrev S3x3x16x32 : Shape := ⟨4, ![3, 3, 16, 32]⟩
abbrev S32 : Shape := ⟨1, ![32]⟩
abbrev S800x128 : Shape := ⟨2, ![800, 128]⟩
abbrev S128 : Shape := ⟨1, ![128]⟩
abbrev S128x1 : Shape := ⟨2, ![128, 1]⟩
abbrev S1 : Shape := ⟨1, ![1]⟩
abbrev S800x256 : Shape := ⟨2, ![800, 256]⟩
abbrev S256x1 : Shape := ⟨2, ![256, 1]⟩
abbrev S3x28x26 : Shape := ⟨3, ![3, 28, 26]⟩
abbrev S3x13x11 : Shape := ⟨3, ![3, 13, 11]⟩
abbrev S8192x28x28 : Shape := ⟨3, ![8192, 28, 28]⟩
abbrev S16x1x512 : Shape := ⟨3, ![16, 1, 512]⟩
abbrev S1x1x256 : Shape := ⟨3, ![1, 1, 256]⟩
abbrev S3x3x16 : Shape := ⟨3, ![3, 3, 16]⟩
abbrev S3x16x28x26 : Shape := ⟨4, ![3, 16, 28, 26]⟩
abbrev S3x28x26x16 : Shape := ⟨4, ![3, 28, 26, 16]⟩
abbrev S3x28x13x16 : Shape := ⟨4, ![3, 28, 13, 16]⟩
abbrev S84x416 : Shape := ⟨2, ![84, 416]⟩
abbrev S3x16x32x13x11 : Shape := ⟨5, ![3, 16, 32, 13, 11]⟩
abbrev S3x13x16x11x32 : Shape := ⟨5, ![3, 13, 16, 11, 32]⟩
abbrev S3x13x16x5x32 : Shape := ⟨5, ![3, 13, 16, 5, 32]⟩
abbrev S3x13x16x1x32 : Shape := ⟨5, ![3, 13, 16, 1, 32]⟩
abbrev S624x352 : Shape := ⟨2, ![624, 352]⟩
abbrev S1x16 : Shape := ⟨2, ![1, 16]⟩
abbrev S13x16 : Shape := ⟨2, ![13, 16]⟩
abbrev S208 : Shape := ⟨1, ![208]⟩
abbrev S1x208 : Shape := ⟨2, ![1, 208]⟩
abbrev S1x32 : Shape := ⟨2, ![1, 32]⟩
abbrev S5x32 : Shape := ⟨2, ![5, 32]⟩
abbrev S160 : Shape := ⟨1, ![160]⟩
abbrev S1x160 : Shape := ⟨2, ![1, 160]⟩
abbrev S1x128 : Shape := ⟨2, ![1, 128]⟩
abbrev S1x1 : Shape := ⟨2, ![1, 1]⟩
abbrev S256x800 : Shape := ⟨2, ![256, 800]⟩
abbrev S512x28x28 : Shape := ⟨3, ![512, 28, 28]⟩
abbrev S1x1x512 : Shape := ⟨3, ![1, 1, 512]⟩
abbrev S512x784 : Shape := ⟨2, ![512, 784]⟩
abbrev S512x84 : Shape := ⟨2, ![512, 84]⟩
abbrev S13312x84 : Shape := ⟨2, ![13312, 84]⟩
abbrev S13312x416 : Shape := ⟨2, ![13312, 416]⟩
abbrev S13x2x512x416 : Shape := ⟨4, ![13, 2, 512, 416]⟩
abbrev S13x1x512x416 : Shape := ⟨4, ![13, 1, 512, 416]⟩
abbrev S13x512x416 : Shape := ⟨3, ![13, 512, 416]⟩
abbrev S13x512x208 : Shape := ⟨3, ![13, 512, 208]⟩
abbrev S1x1x208 : Shape := ⟨3, ![1, 1, 208]⟩
abbrev S11x512x208 : Shape := ⟨3, ![11, 512, 208]⟩
abbrev S11x512x624 : Shape := ⟨3, ![11, 512, 624]⟩
abbrev S5632x624 : Shape := ⟨2, ![5632, 624]⟩
abbrev S5632x352 : Shape := ⟨2, ![5632, 352]⟩
abbrev S11x512x352 : Shape := ⟨3, ![11, 512, 352]⟩
abbrev S10x512x352 : Shape := ⟨3, ![10, 512, 352]⟩
abbrev S5x2x512x352 : Shape := ⟨4, ![5, 2, 512, 352]⟩
abbrev S5x1x512x352 : Shape := ⟨4, ![5, 1, 512, 352]⟩
abbrev S5x512x352 : Shape := ⟨3, ![5, 512, 352]⟩
abbrev S5x512x160 : Shape := ⟨3, ![5, 512, 160]⟩
abbrev S1x1x160 : Shape := ⟨3, ![1, 1, 160]⟩
abbrev S1x512x160 : Shape := ⟨3, ![1, 512, 160]⟩
abbrev S512x160 : Shape := ⟨2, ![512, 160]⟩
abbrev S512x800 : Shape := ⟨2, ![512, 800]⟩
abbrev S512x128 : Shape := ⟨2, ![512, 128]⟩
abbrev S512x1 : Shape := ⟨2, ![512, 1]⟩
abbrev S512 : Shape := ⟨1, ![512]⟩
abbrev S1x512 : Shape := ⟨2, ![1, 512]⟩
abbrev S256x512 : Shape := ⟨2, ![256, 512]⟩
abbrev S1x256 : Shape := ⟨2, ![1, 256]⟩
abbrev S256x128 : Shape := ⟨2, ![256, 128]⟩
abbrev S16x256 : Shape := ⟨2, ![16, 256]⟩
abbrev S16x800 : Shape := ⟨2, ![16, 800]⟩
abbrev S1x256x1 : Shape := ⟨3, ![1, 256, 1]⟩
abbrev S1x1x1 : Shape := ⟨3, ![1, 1, 1]⟩
abbrev S16x128 : Shape := ⟨2, ![16, 128]⟩
abbrev S16x1 : Shape := ⟨2, ![16, 1]⟩
abbrev S1x16x1 : Shape := ⟨3, ![1, 16, 1]⟩
abbrev S800 : Shape := ⟨1, ![800]⟩
abbrev S1x800 : Shape := ⟨2, ![1, 800]⟩

abbrev nBuf : Space → Nat
  | .hbm => 65
  | .vmem => 30
  | .smem => 0
  | _ => 0

abbrev bufTy : (tb : Table) → Fin (tcTables nBuf tb) → BufTy
  | .hbm, ⟨0, _⟩ => ⟨S8192x28x28x1, .f32⟩
  | .hbm, ⟨1, _⟩ => ⟨S8192, .i32⟩
  | .hbm, ⟨2, _⟩ => ⟨S256, .i32⟩
  | .hbm, ⟨3, _⟩ => ⟨S3x3x1x16, .f32⟩
  | .hbm, ⟨4, _⟩ => ⟨S16, .f32⟩
  | .hbm, ⟨5, _⟩ => ⟨S3x3x16x32, .f32⟩
  | .hbm, ⟨6, _⟩ => ⟨S32, .f32⟩
  | .hbm, ⟨7, _⟩ => ⟨S800x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S800x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S800x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S800x256, .f32⟩
  | .hbm, ⟨20, _⟩ => ⟨S256, .f32⟩
  | .hbm, ⟨21, _⟩ => ⟨S256x1, .f32⟩
  | .hbm, ⟨22, _⟩ => ⟨S1, .f32⟩
  | .hbm, ⟨23, _⟩ => ⟨S3x28x26, .f32⟩
  | .hbm, ⟨24, _⟩ => ⟨S3x13x11, .f32⟩
  | .hbm, ⟨25, _⟩ => ⟨S8192x28x28, .f32⟩
  | .hbm, ⟨26, _⟩ => ⟨S16x1x512, .i32⟩
  | .hbm, ⟨27, _⟩ => ⟨S1x1x256, .i32⟩
  | .hbm, ⟨28, _⟩ => ⟨S3x3x16, .f32⟩
  | .hbm, ⟨29, _⟩ => ⟨S3x16x28x26, .f32⟩
  | .hbm, ⟨30, _⟩ => ⟨S3x28x26x16, .f32⟩
  | .hbm, ⟨31, _⟩ => ⟨S3x28x13x16, .f32⟩
  | .hbm, ⟨32, _⟩ => ⟨S3x28x13x16, .f32⟩
  | .hbm, ⟨33, _⟩ => ⟨S3x28x26x16, .f32⟩
  | .hbm, ⟨34, _⟩ => ⟨S84x416, .f32⟩
  | .hbm, ⟨35, _⟩ => ⟨S3x16x32x13x11, .f32⟩
  | .hbm, ⟨36, _⟩ => ⟨S3x13x16x11x32, .f32⟩
  | .hbm, ⟨37, _⟩ => ⟨S3x13x16x5x32, .f32⟩
  | .hbm, ⟨38, _⟩ => ⟨S3x13x16x5x32, .f32⟩
  | .hbm, ⟨39, _⟩ => ⟨S3x13x16x1x32, .f32⟩
  | .hbm, ⟨40, _⟩ => ⟨S3x13x16x11x32, .f32⟩
  | .hbm, ⟨41, _⟩ => ⟨S624x352, .f32⟩
  | .hbm, ⟨42, _⟩ => ⟨S84x416, .bf16⟩
  | .hbm, ⟨43, _⟩ => ⟨S624x352, .bf16⟩
  | .hbm, ⟨44, _⟩ => ⟨S1x16, .f32⟩
  | .hbm, ⟨45, _⟩ => ⟨S13x16, .f32⟩
  | .hbm, ⟨46, _⟩ => ⟨S208, .f32⟩
  | .hbm, ⟨47, _⟩ => ⟨S1x208, .f32⟩
  | .hbm, ⟨48, _⟩ => ⟨S1x208, .bf16⟩
  | .hbm, ⟨49, _⟩ => ⟨S1x32, .f32⟩
  | .hbm, ⟨50, _⟩ => ⟨S5x32, .f32⟩
  | .hbm, ⟨51, _⟩ => ⟨S160, .f32⟩
  | .hbm, ⟨52, _⟩ => ⟨S1x160, .f32⟩
  | .hbm, ⟨53, _⟩ => ⟨S1x160, .bf16⟩
  | .hbm, ⟨54, _⟩ => ⟨S1x128, .f32⟩
  | .hbm, ⟨55, _⟩ => ⟨S1x1, .f32⟩
  | .hbm, ⟨56, _⟩ => ⟨S256x800, .f32⟩
  | .hbm, ⟨57, _⟩ => ⟨S1x1, .f32⟩
  | .hbm, ⟨58, _⟩ => ⟨S1x128, .f32⟩
  | .hbm, ⟨59, _⟩ => ⟨S1x1, .f32⟩
  | .hbm, ⟨60, _⟩ => ⟨S1x128, .f32⟩
  | .hbm, ⟨61, _⟩ => ⟨S1x1, .f32⟩
  | .hbm, ⟨62, _⟩ => ⟨S1x256, .f32⟩
  | .hbm, ⟨63, _⟩ => ⟨S1x1, .f32⟩
  | .hbm, ⟨64, _⟩ => ⟨S1x1, .f32⟩
  | .local _ .vmem, ⟨0, _⟩ => ⟨S512x28x28, .f32⟩
  | .local _ .vmem, ⟨1, _⟩ => ⟨S512x28x28, .f32⟩
  | .local _ .vmem, ⟨2, _⟩ => ⟨S1x1x512, .i32⟩
  | .local _ .vmem, ⟨3, _⟩ => ⟨S1x1x512, .i32⟩
  | .local _ .vmem, ⟨4, _⟩ => ⟨S84x416, .bf16⟩
  | .local _ .vmem, ⟨5, _⟩ => ⟨S1x208, .bf16⟩
  | .local _ .vmem, ⟨6, _⟩ => ⟨S624x352, .bf16⟩
  | .local _ .vmem, ⟨7, _⟩ => ⟨S1x160, .bf16⟩
  | .local _ .vmem, ⟨8, _⟩ => ⟨S800x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S256x800, .f32⟩
  | .local _ .vmem, ⟨13, _⟩ => ⟨S1x1, .f32⟩
  | .local _ .vmem, ⟨14, _⟩ => ⟨S256x800, .f32⟩
  | .local _ .vmem, ⟨15, _⟩ => ⟨S1x1, .f32⟩
  | .local _ .vmem, ⟨16, _⟩ => ⟨S1x1x256, .i32⟩
  | .local _ .vmem, ⟨17, _⟩ => ⟨S800x128, .f32⟩
  | .local _ .vmem, ⟨18, _⟩ => ⟨S1x128, .f32⟩
  | .local _ .vmem, ⟨19, _⟩ => ⟨S128x1, .f32⟩
  | .local _ .vmem, ⟨20, _⟩ => ⟨S1x1, .f32⟩
  | .local _ .vmem, ⟨21, _⟩ => ⟨S800x128, .f32⟩
  | .local _ .vmem, ⟨22, _⟩ => ⟨S1x128, .f32⟩
  | .local _ .vmem, ⟨23, _⟩ => ⟨S128x1, .f32⟩
  | .local _ .vmem, ⟨24, _⟩ => ⟨S1x1, .f32⟩
  | .local _ .vmem, ⟨25, _⟩ => ⟨S800x256, .f32⟩
  | .local _ .vmem, ⟨26, _⟩ => ⟨S1x256, .f32⟩
  | .local _ .vmem, ⟨27, _⟩ => ⟨S256x1, .f32⟩
  | .local _ .vmem, ⟨28, _⟩ => ⟨S1x1, .f32⟩
  | .local _ .vmem, ⟨29, _⟩ => ⟨S1x1, .f32⟩
  | _, _ => ⟨S8192x28x28x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_cst_0 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S84x416 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x208 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S624x352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S800x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x800 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := .none

abbrev stage1_0 : Fin 1 → Memref sig .tc .vmem S256x800 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1x256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S800x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S800x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S800x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S256x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
-- ==== ReferenceIdeal.lean ====
abbrev S8192x28x28x1 : Shape := ⟨4, ![8192, 28, 28, 1]⟩
abbrev S8192 : Shape := ⟨1, ![8192]⟩
abbrev S256 : Shape := ⟨1, ![256]⟩
abbrev S3x3x1x16 : Shape := ⟨4, ![3, 3, 1, 16]⟩
abbrev S16 : Shape := ⟨1, ![16]⟩
abbrev S3x3x16x32 : Shape := ⟨4, ![3, 3, 16, 32]⟩
abbrev S32 : Shape := ⟨1, ![32]⟩
abbrev S800x128 : Shape := ⟨2, ![800, 128]⟩
abbrev S128 : Shape := ⟨1, ![128]⟩
abbrev S128x1 : Shape := ⟨2, ![128, 1]⟩
abbrev S1 : Shape := ⟨1, ![1]⟩
abbrev S800x256 : Shape := ⟨2, ![800, 256]⟩
abbrev S256x1 : Shape := ⟨2, ![256, 1]⟩
abbrev S8192x26x26x1 : Shape := ⟨4, ![8192, 26, 26, 1]⟩
abbrev S1x1x1x16 : Shape := ⟨4, ![1, 1, 1, 16]⟩
abbrev S1x16 : Shape := ⟨2, ![1, 16]⟩
abbrev S8192x26x26x16 : Shape := ⟨4, ![8192, 26, 26, 16]⟩
abbrev S_ : Shape := ⟨0, ![]⟩
abbrev S8192x13x13x16 : Shape := ⟨4, ![8192, 13, 13, 16]⟩
abbrev S8192x11x11x16 : Shape := ⟨4, ![8192, 11, 11, 16]⟩
abbrev S1x1x16x32 : Shape := ⟨4, ![1, 1, 16, 32]⟩
abbrev S16x32 : Shape := ⟨2, ![16, 32]⟩
abbrev S8192x11x11x32 : Shape := ⟨4, ![8192, 11, 11, 32]⟩
abbrev S1x1x1x32 : Shape := ⟨4, ![1, 1, 1, 32]⟩
abbrev S8192x5x5x32 : Shape := ⟨4, ![8192, 5, 5, 32]⟩
abbrev S8192x800 : Shape := ⟨2, ![8192, 800]⟩
abbrev S8192x128 : Shape := ⟨2, ![8192, 128]⟩
abbrev S1x128 : Shape := ⟨2, ![1, 128]⟩
abbrev S8192x1 : Shape := ⟨2, ![8192, 1]⟩
abbrev S1x1 : Shape := ⟨2, ![1, 1]⟩
abbrev S256x800 : Shape := ⟨2, ![256, 800]⟩
abbrev S256x128 : Shape := ⟨2, ![256, 128]⟩
abbrev S16x800 : Shape := ⟨2, ![16, 800]⟩
abbrev S16x128 : Shape := ⟨2, ![16, 128]⟩
abbrev S16x1 : Shape := ⟨2, ![16, 1]⟩
abbrev S1x800 : Shape := ⟨2, ![1, 800]⟩
abbrev S1x256 : Shape := ⟨2, ![1, 256]⟩

abbrev nBuf : Space → Nat
  | .hbm => 259
  | .vmem => 0
  | .smem => 0
  | _ => 0

abbrev hbmTy0_0 (i : Nat) : BufTy := match i % 128 with
  | 0 => ⟨S8192x28x28x1, .f32⟩
  | 1 => ⟨S8192, .i32⟩
  | 2 => ⟨S256, .i32⟩
  | 3 => ⟨S3x3x1x16, .f32⟩
  | 4 => ⟨S16, .f32⟩
  | 5 => ⟨S3x3x16x32, .f32⟩
  | 6 => ⟨S32, .f32⟩
  | 7 => ⟨S800x128, .f32⟩
  | 8 => ⟨S128, .f32⟩
  | 9 => ⟨S128x1, .f32⟩
  | 10 => ⟨S1, .f32⟩
  | 11 => ⟨S800x128, .f32⟩
  | 12 => ⟨S128, .f32⟩
  | 13 => ⟨S128x1, .f32⟩
  | 14 => ⟨S1, .f32⟩
  | 15 => ⟨S800x128, .f32⟩
  | 16 => ⟨S128, .f32⟩
  | 17 => ⟨S128x1, .f32⟩
  | 18 => ⟨S1, .f32⟩
  | 19 => ⟨S800x256, .f32⟩
  | 20 => ⟨S256, .f32⟩
  | 21 => ⟨S256x1, .f32⟩
  | 22 => ⟨S1, .f32⟩
  | 23 => ⟨S8192x26x26x1, .f32⟩
  | 24 => ⟨S1x1x1x16, .f32⟩
  | 25 => ⟨S1x16, .f32⟩
  | 26 => ⟨S8192x26x26x16, .f32⟩
  | 27 => ⟨S_, .f32⟩
  | 28 => ⟨S8192x26x26x16, .f32⟩
  | 29 => ⟨S8192x26x26x16, .f32⟩
  | 30 => ⟨S8192x26x26x1, .f32⟩
  | 31 => ⟨S1x1x1x16, .f32⟩
  | 32 => ⟨S1x16, .f32⟩
  | 33 => ⟨S8192x26x26x16, .f32⟩
  | 34 => ⟨S8192x26x26x16, .f32⟩
  | 35 => ⟨S8192x26x26x1, .f32⟩
  | 36 => ⟨S1x1x1x16, .f32⟩
  | 37 => ⟨S1x16, .f32⟩
  | 38 => ⟨S8192x26x26x16, .f32⟩
  | 39 => ⟨S8192x26x26x16, .f32⟩
  | 40 => ⟨S8192x26x26x1, .f32⟩
  | 41 => ⟨S1x1x1x16, .f32⟩
  | 42 => ⟨S1x16, .f32⟩
  | 43 => ⟨S8192x26x26x16, .f32⟩
  | 44 => ⟨S8192x26x26x16, .f32⟩
  | 45 => ⟨S8192x26x26x1, .f32⟩
  | 46 => ⟨S1x1x1x16, .f32⟩
  | 47 => ⟨S1x16, .f32⟩
  | 48 => ⟨S8192x26x26x16, .f32⟩
  | 49 => ⟨S8192x26x26x16, .f32⟩
  | 50 => ⟨S8192x26x26x1, .f32⟩
  | 51 => ⟨S1x1x1x16, .f32⟩
  | 52 => ⟨S1x16, .f32⟩
  | 53 => ⟨S8192x26x26x16, .f32⟩
  | 54 => ⟨S8192x26x26x16, .f32⟩
  | 55 => ⟨S8192x26x26x1, .f32⟩
  | 56 => ⟨S1x1x1x16, .f32⟩
  | 57 => ⟨S1x16, .f32⟩
  | 58 => ⟨S8192x26x26x16, .f32⟩
  | 59 => ⟨S8192x26x26x16, .f32⟩
  | 60 => ⟨S8192x26x26x1, .f32⟩
  | 61 => ⟨S1x1x1x16, .f32⟩
  | 62 => ⟨S1x16, .f32⟩
  | 63 => ⟨S8192x26x26x16, .f32⟩
  | 64 => ⟨S8192x26x26x16, .f32⟩
  | 65 => ⟨S8192x26x26x1, .f32⟩
  | 66 => ⟨S1x1x1x16, .f32⟩
  | 67 => ⟨S1x16, .f32⟩
  | 68 => ⟨S8192x26x26x16, .f32⟩
  | 69 => ⟨S8192x26x26x16, .f32⟩
  | 70 => ⟨S1x1x1x16, .f32⟩
  | 71 => ⟨S8192x26x26x16, .f32⟩
  | 72 => ⟨S8192x26x26x16, .f32⟩
  | 73 => ⟨S_, .f32⟩
  | 74 => ⟨S8192x26x26x16, .f32⟩
  | 75 => ⟨S8192x26x26x16, .f32⟩
  | 76 => ⟨S_, .f32⟩
  | 77 => ⟨S_, .f32⟩
  | 78 => ⟨S8192x13x13x16, .f32⟩
  | 79 => ⟨S8192x11x11x16, .f32⟩
  | 80 => ⟨S1x1x16x32, .f32⟩
  | 81 => ⟨S16x32, .f32⟩
  | 82 => ⟨S8192x11x11x32, .f32⟩
  | 83 => ⟨S_, .f32⟩
  | 84 => ⟨S8192x11x11x32, .f32⟩
  | 85 => ⟨S8192x11x11x32, .f32⟩
  | 86 => ⟨S8192x11x11x16, .f32⟩
  | 87 => ⟨S1x1x16x32, .f32⟩
  | 88 => ⟨S16x32, .f32⟩
  | 89 => ⟨S8192x11x11x32, .f32⟩
  | 90 => ⟨S8192x11x11x32, .f32⟩
  | 91 => ⟨S8192x11x11x16, .f32⟩
  | 92 => ⟨S1x1x16x32, .f32⟩
  | 93 => ⟨S16x32, .f32⟩
  | 94 => ⟨S8192x11x11x32, .f32⟩
  | 95 => ⟨S8192x11x11x32, .f32⟩
  | 96 => ⟨S8192x11x11x16, .f32⟩
  | 97 => ⟨S1x1x16x32, .f32⟩
  | 98 => ⟨S16x32, .f32⟩
  | 99 => ⟨S8192x11x11x32, .f32⟩
  | 100 => ⟨S8192x11x11x32, .f32⟩
  | 101 => ⟨S8192x11x11x16, .f32⟩
  | 102 => ⟨S1x1x16x32, .f32⟩
  | 103 => ⟨S16x32, .f32⟩
  | 104 => ⟨S8192x11x11x32, .f32⟩
  | 105 => ⟨S8192x11x11x32, .f32⟩
  | 106 => ⟨S8192x11x11x16, .f32⟩
  | 107 => ⟨S1x1x16x32, .f32⟩
  | 108 => ⟨S16x32, .f32⟩
  | 109 => ⟨S8192x11x11x32, .f32⟩
  | 110 => ⟨S8192x11x11x32, .f32⟩
  | 111 => ⟨S8192x11x11x16, .f32⟩
  | 112 => ⟨S1x1x16x32, .f32⟩
  | 113 => ⟨S16x32, .f32⟩
  | 114 => ⟨S8192x11x11x32, .f32⟩
  | 115 => ⟨S8192x11x11x32, .f32⟩
  | 116 => ⟨S8192x11x11x16, .f32⟩
  | 117 => ⟨S1x1x16x32, .f32⟩
  | 118 => ⟨S16x32, .f32⟩
  | 119 => ⟨S8192x11x11x32, .f32⟩
  | 120 => ⟨S8192x11x11x32, .f32⟩
  | 121 => ⟨S8192x11x11x16, .f32⟩
  | 122 => ⟨S1x1x16x32, .f32⟩
  | 123 => ⟨S16x32, .f32⟩
  | 124 => ⟨S8192x11x11x32, .f32⟩
  | 125 => ⟨S8192x11x11x32, .f32⟩
  | 126 => ⟨S1x1x1x32, .f32⟩
  | 127 => ⟨S8192x11x11x32, .f32⟩
  | _ => ⟨S8192x28x28x1, .f32⟩

abbrev hbmTy0_1 (i : Nat) : BufTy := match i % 128 with
  | 0 => ⟨S8192x11x11x32, .f32⟩
  | 1 => ⟨S_, .f32⟩
  | 2 => ⟨S8192x11x11x32, .f32⟩
  | 3 => ⟨S8192x11x11x32, .f32⟩
  | 4 => ⟨S_, .f32⟩
  | 5 => ⟨S_, .f32⟩
  | 6 => ⟨S8192x5x5x32, .f32⟩
  | 7 => ⟨S8192x800, .f32⟩
  | 8 => ⟨S8192x128, .f32⟩
  | 9 => ⟨S1x128, .f32⟩
  | 10 => ⟨S8192x128, .f32⟩
  | 11 => ⟨S8192x128, .f32⟩
  | 12 => ⟨S8192x128, .f32⟩
  | 13 => ⟨S8192x1, .f32⟩
  | 14 => ⟨S1x1, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192, .f32⟩
  | 26 => ⟨S_, .f32⟩
  | 27 => ⟨S_, .f32⟩
  | 28 => ⟨S_, .f32⟩
  | 29 => ⟨S_, .f32⟩
  | 30 => ⟨S1, .f32⟩
  | 31 => ⟨S8192, .f32⟩
  | 32 => ⟨S8192, .f32⟩
  | 33 => ⟨S8192, .f32⟩
  | 34 => ⟨S_, .f32⟩
  | 35 => ⟨S_, .f32⟩
  | 36 => ⟨S1, .f32⟩
  | 37 => ⟨S8192, .f32⟩
  | 38 => ⟨S8192, .f32⟩
  | 39 => ⟨S8192x1, .f32⟩
  | 40 => ⟨S8192x800, .f32⟩
  | 41 => ⟨S8192x800, .f32⟩
  | 42 => ⟨S_, .f32⟩
  | 43 => ⟨S256x800, .f32⟩
  | 44 => ⟨S8192x1, .i32⟩
  | 45 => ⟨S256x800, .f32⟩
  | 46 => ⟨S256x128, .f32⟩
  | 47 => ⟨S1x128, .f32⟩
  | 48 => ⟨S256x128, .f32⟩
  | 49 => ⟨S256x128, .f32⟩
  | 50 => ⟨S256x128, .f32⟩
  | 51 => ⟨S256x1, .f32⟩
  | 52 => ⟨S1x1, .f32⟩
  | 53 => ⟨S256x1, .f32⟩
  | 54 => ⟨S256x1, .f32⟩
  | 55 => ⟨S256x1, .f32⟩
  | 56 => ⟨S256x1, .f32⟩
  | 57 => ⟨S_, .f32⟩
  | 58 => ⟨S256x1, .f32⟩
  | 59 => ⟨S256x1, .f32⟩
  | 60 => ⟨S_, .f32⟩
  | 61 => ⟨S256x1, .f32⟩
  | 62 => ⟨S256x1, .f32⟩
  | 63 => ⟨S256, .f32⟩
  | 64 => ⟨S_, .f32⟩
  | 65 => ⟨S_, .f32⟩
  | 66 => ⟨S_, .f32⟩
  | 67 => ⟨S_, .f32⟩
  | 68 => ⟨S1, .f32⟩
  | 69 => ⟨S256, .f32⟩
  | 70 => ⟨S256, .f32⟩
  | 71 => ⟨S256, .f32⟩
  | 72 => ⟨S_, .f32⟩
  | 73 => ⟨S_, .f32⟩
  | 74 => ⟨S1, .f32⟩
  | 75 => ⟨S256, .f32⟩
  | 76 => ⟨S256, .f32⟩
  | 77 => ⟨S256x1, .f32⟩
  | 78 => ⟨S256x800, .f32⟩
  | 79 => ⟨S256x800, .f32⟩
  | 80 => ⟨S_, .f32⟩
  | 81 => ⟨S16x800, .f32⟩
  | 82 => ⟨S256x1, .i32⟩
  | 83 => ⟨S16x800, .f32⟩
  | 84 => ⟨S16x128, .f32⟩
  | 85 => ⟨S1x128, .f32⟩
  | 86 => ⟨S16x128, .f32⟩
  | 87 => ⟨S16x128, .f32⟩
  | 88 => ⟨S16x128, .f32⟩
  | 89 => ⟨S16x1, .f32⟩
  | 90 => ⟨S1x1, .f32⟩
  | 91 => ⟨S16x1, .f32⟩
  | 92 => ⟨S16x1, .f32⟩
  | 93 => ⟨S16x1, .f32⟩
  | 94 => ⟨S16x1, .f32⟩
  | 95 => ⟨S_, .f32⟩
  | 96 => ⟨S16x1, .f32⟩
  | 97 => ⟨S16x1, .f32⟩
  | 98 => ⟨S_, .f32⟩
  | 99 => ⟨S16x1, .f32⟩
  | 100 => ⟨S16x1, .f32⟩
  | 101 => ⟨S16, .f32⟩
  | 102 => ⟨S_, .f32⟩
  | 103 => ⟨S_, .f32⟩
  | 104 => ⟨S_, .f32⟩
  | 105 => ⟨S_, .f32⟩
  | 106 => ⟨S1, .f32⟩
  | 107 => ⟨S16, .f32⟩
  | 108 => ⟨S16, .f32⟩
  | 109 => ⟨S16, .f32⟩
  | 110 => ⟨S_, .f32⟩
  | 111 => ⟨S_, .f32⟩
  | 112 => ⟨S1, .f32⟩
  | 113 => ⟨S16, .f32⟩
  | 114 => ⟨S16, .f32⟩
  | 115 => ⟨S1x16, .f32⟩
  | 116 => ⟨S1x800, .f32⟩
  | 117 => ⟨S1x256, .f32⟩
  | 118 => ⟨S1x256, .f32⟩
  | 119 => ⟨S1x256, .f32⟩
  | 120 => ⟨S1x1, .f32⟩
  | 121 => ⟨S1x1, .f32⟩
  | 122 => ⟨S1x1, .f32⟩
  | 123 => ⟨S1x1, .f32⟩
  | 124 => ⟨S1x1, .f32⟩
  | 125 => ⟨S_, .f32⟩
  | 126 => ⟨S1x1, .f32⟩
  | 127 => ⟨S1x1, .f32⟩
  | _ => ⟨S8192x28x28x1, .f32⟩

abbrev hbmTy0_2 (i : Nat) : BufTy := match i % 128 with
  | 0 => ⟨S_, .f32⟩
  | 1 => ⟨S1x1, .f32⟩
  | 2 => ⟨S1x1, .f32⟩
  | _ => ⟨S8192x28x28x1, .f32⟩

abbrev hbmTy (i : Nat) : BufTy := match i / 128 with
  | 0 => hbmTy0_0 i
  | 1 => hbmTy0_1 i
  | 2 => hbmTy0_2 i
  | _ => ⟨S8192x28x28x1, .f32⟩

abbrev bufTy : (tb : Table) → Fin (tcTables nBuf tb) → BufTy
  | .hbm, ⟨i, _⟩ => hbmTy i
  | _, _ => ⟨S8192x28x28x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call0_cst : Ref sig .tc := ⟨.hbm, 73, rfl⟩
abbrev main_call0_v0 : Ref sig .tc := ⟨.hbm, 74, rfl⟩
abbrev main_v49 : Ref sig .tc := ⟨.hbm, 75, rfl⟩
abbrev main_cst_0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_1 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_call1_cst : Ref sig .tc := ⟨.hbm, 129, rfl⟩
abbrev main_call1_v0 : Ref sig .tc := ⟨.hbm, 130, rfl⟩
abbrev main_v101 : Ref sig .tc := ⟨.hbm, 131, rfl⟩
abbrev main_cst_2 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_3 : Ref sig .tc := ⟨.hbm, 147, rfl⟩
abbrev main_v116 : Ref sig .tc := ⟨.hbm, 148, rfl⟩
abbrev main_v117 : Ref sig .tc := ⟨.hbm, 149, rfl⟩
abbrev main_cst_4 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_5 : Ref sig .tc := ⟨.hbm, 154, rfl⟩
abbrev main_v121 : Ref sig .tc := ⟨.hbm, 155, rfl⟩
abbrev main_cst_6 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_7 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_8 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_9 : Ref sig .tc := ⟨.hbm, 185, rfl⟩
abbrev main_v148 : Ref sig .tc := ⟨.hbm, 186, rfl⟩
abbrev main_v149 : Ref sig .tc := ⟨.hbm, 187, rfl⟩
abbrev main_cst_10 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_11 : Ref sig .tc := ⟨.hbm, 192, rfl⟩
abbrev main_v153 : Ref sig .tc := ⟨.hbm, 193, rfl⟩
abbrev main_cst_12 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_13 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_14 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_15 : Ref sig .tc := ⟨.hbm, 223, rfl⟩
abbrev main_v180 : Ref sig .tc := ⟨.hbm, 224, rfl⟩
abbrev main_v181 : Ref sig .tc := ⟨.hbm, 225, rfl⟩
abbrev main_cst_16 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_17 : Ref sig .tc := ⟨.hbm, 230, rfl⟩
abbrev main_v185 : Ref sig .tc := ⟨.hbm, 231, rfl⟩
abbrev main_cst_18 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_cst_19 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_cst_20 : Ref sig .tc := ⟨.hbm, 253, rfl⟩
abbrev main_v205 : Ref sig .tc := ⟨.hbm, 254, rfl⟩
abbrev main_v206 : Ref sig .tc := ⟨.hbm, 255, rfl⟩
abbrev main_cst_21 : Ref sig .tc := ⟨.hbm, 256, rfl⟩
abbrev main_v207 : Ref sig .tc := ⟨.hbm, 257, rfl⟩
abbrev main_v208 : Ref sig .tc := ⟨.hbm, 258, rfl⟩

abbrev nD : Nat := 1
abbrev τ : Topo := Topo.v7x

variable {F : FTy → Type} [FloatOps F]
-- ==== Proof.Stages.lean ====
module

public import proofs.«01_k».proof.Proof.Gen.KernelIdeal.Skeleton
public import Idealize.ShloMosaic.Lib.Pointwise
public import Idealize.ShloMosaic.Lib.Pipeline.Value

/-! The first kernel's block computation cut in stages, each read at an index. -/

@[expose] public section
noncomputable section
namespace Cert.Proof.Stages
open Idealize.ShloMosaic Cert.KernelIdeal Cert.KernelIdeal.Gen

set_option maxRecDepth 16384
set_option maxHeartbeats 1000000

theorem ix2_eq {a b : Nat} {i i' : Fin a} {j j' : Fin b} (hi : i.val = i'.val) (hj : j.val = j'.val) : ix2 i j = ix2 i' j' := by
  rw [Fin.ext hi, Fin.ext hj]

theorem ix3_eq {a b c : Nat} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

theorem winSlices (i : Fin 26) : S512x784.Slices ![0, 28 * i.val] S512x84 := by
  revert i; decide

/-- A block's images, each flattened to one row of 784 pixels. -/
def flat (v0 : Vec Ideal S512x28x28 .f32) : FVec Ideal S512x784 .bf16 :=
  shapeCast S512x784 (truncf .bf16 (shapeCast S512x28x28 v0 shapeCasts_S512x28x28_S512x28x28) bitsLt_bf16_f32)
    shapeCasts_S512x28x28_S512x784

theorem winCat (x : FVec Ideal S512x784 .bf16) : Shape.Concatenates
    ((List.ofFn fun i : Fin 26 => (⟨S512x84, extractStridedSlice S512x84 ![0, 28 * i.val] x (winSlices i)⟩ :
      (s : Shape) × (s.Idx → Ideal .bf16))).map (·.1)) S13312x84 0 := by
  rw [List.map_ofFn]
  exact concatenates_S512x84_S512x84_S512x84_S512x84_S512x84_S512x84_S512x84_S512x84_S512x84_S512x84_S512x84_S512x84_S512x84_S512x84_S512x84_S512x84_S512x84_S512x84_S512x84_S512x84_S512x84_S512x84_S512x84_S512x84_S512x84_S512x84_S13312x84_d0

/-- The 26 windows of three consecutive image rows, one under the other. -/
def rows (x : FVec Ideal S512x784 .bf16) : FVec Ideal S13312x84 .bf16 :=
  concatenate S13312x84 0 (List.ofFn fun i : Fin 26 =>
    (⟨S512x84, extractStridedSlice S512x84 ![0, 28 * i.val] x (winSlices i)⟩ : (s : Shape) × (s.Idx → Ideal .bf16)))
    (winCat x)

/-- The larger of two rows' products, then of the two column halves. -/
def pool1 (y : FVec Ideal S13312x416 .bf16) : FVec Ideal S13x512x208 .bf16 :=
  let z := shapeCast S13x2x512x416 y shapeCasts_S13312x416_S13x2x512x416
  let a := shapeCast S13x512x416 (extractStridedSlice S13x1x512x416 ![0, 0, 0, 0] z slices_S13x2x512x416_o0_0_0_0_S13x1x512x416) shapeCasts_S13x1x512x416_S13x512x416
  let b := shapeCast S13x512x416 (extractStridedSlice S13x1x512x416 ![0, 1, 0, 0] z slices_S13x2x512x416_o0_1_0_0_S13x1x512x416) shapeCasts_S13x1x512x416_S13x512x416
  let m := maximumf a b
  maximumf (extractStridedSlice S13x512x208 ![0, 0, 0] m slices_S13x512x416_o0_0_0_S13x512x208)
    (extractStridedSlice S13x512x208 ![0, 0, 208] m slices_S13x512x416_o0_0_208_S13x512x208)

/-- The product of the windows with the first band weights. -/
def prod1 (x : FVec Ideal S13312x84 .bf16) (w : Vec Ideal S84x416 .bf16) : FVec Ideal S13312x416 .bf16 :=
  truncf .bf16 (matmul dot_S13312x84_S84x416_S13312x416_1_0_0_1_n_n none x
    (shapeCast S84x416 w shapeCasts_S84x416_S84x416 : FVec Ideal S84x416 .bf16) (constant S13312x416 .f32 0x00000000#32)) bitsLt_bf16_f32

theorem pay6_eq (v0 : Vec Ideal S512x28x28 .f32) (v31 : Vec Ideal S84x416 .bf16) (v44 : Vec Ideal S1x208 .bf16) :
    k0_pay6 v0 v31 v44 = addf (pool1 (prod1 (rows (flat v0)) v31))
      (broadcastTo S13x512x208 (shapeCast S1x1x208 (shapeCast S1x208 v44 shapeCasts_S1x208_S1x208) shapeCasts_S1x208_S1x1x208)
        broadcasts_S1x1x208_S13x512x208) := rfl

theorem pool1_apply (y : FVec Ideal S13312x416 .bf16) (i : Fin 13) (n : Fin 512) (q : Fin 208) :
    pool1 y (ix3 i n q) =
      max (max (y (ix2 ⟨512 * (2 * i.val) + n.val, by omega⟩ ⟨q.val, by omega⟩)) (y (ix2 ⟨512 * (2 * i.val + 1) + n.val, by omega⟩ ⟨q.val, by omega⟩)))
        (max (y (ix2 ⟨512 * (2 * i.val) + n.val, by omega⟩ ⟨208 + q.val, by omega⟩)) (y (ix2 ⟨512 * (2 * i.val + 1) + n.val, by omega⟩ ⟨208 + q.val, by omega⟩))) := by
  pointwise [pool1]
  refine congrArg₂ max (congrArg₂ max ?_ ?_) (congrArg₂ max ?_ ?_)
  all_goals exact congrArg y (ix2_eq (by dsimp only; omega) rfl)

theorem prod1_apply (x : FVec Ideal S13312x84 .bf16) (w : Vec Ideal S84x416 .bf16) (i : Fin 13312) (q : Fin 416) :
    prod1 x w (ix2 i q) = ∑ k : Fin 84, x (ix2 i k) * w (ix2 k q) := by
  pointwise [prod1]

theorem flat_apply (v0 : Vec Ideal S512x28x28 .f32) (n : Fin 512) (k : Fin 784) :
    flat v0 (ix2 n k) = v0 (ix3 n ⟨k.val / 28, by omega⟩ ⟨k.val % 28, by omega⟩) := by
  pointwise [flat]

theorem rows_apply (x : FVec Ideal S512x784 .bf16) (I : Fin 26) (n : Fin 512) (k : Fin 84) :
    rows x (ix2 ⟨512 * I.val + n.val, by omega⟩ k) = x (ix2 n ⟨28 * I.val + k.val, by omega⟩) := by
  unfold rows
  refine (concatenate_ofFn_apply (t := S13312x84) (s₁ := S512x84) 0 (fun i : Fin 26 => extractStridedSlice S512x84 ![0, 28 * i.val] x (winSlices i)) (winCat x) rfl 512 rfl (ix2 ⟨512 * I.val + n.val, by omega⟩ k) I ?_ (ix2 n k) ?_ ?_).trans ?_
  · show (512 * I.val + n.val) / 512 = I.val
    omega
  · show n.val = (512 * I.val + n.val) % 512
    omega
  · intro b hb
    match b with
    | ⟨0, _⟩ => exact absurd rfl hb
    | ⟨1, _⟩ => rfl
  · pointwise

/-- The three rows of pooled features under the second kernel window, side by side. -/
def rows2 (h : FVec Ideal S13x512x208 .bf16) : FVec Ideal S11x512x624 .bf16 :=
  concatenate S11x512x624 2 [⟨S11x512x208, extractStridedSlice S11x512x208 ![0, 0, 0] h slices_S13x512x208_o0_0_0_S11x512x208⟩,
    ⟨S11x512x208, extractStridedSlice S11x512x208 ![1, 0, 0] h slices_S13x512x208_o1_0_0_S11x512x208⟩,
    ⟨S11x512x208, extractStridedSlice S11x512x208 ![2, 0, 0] h slices_S13x512x208_o2_0_0_S11x512x208⟩]
    concatenates_S11x512x208_S11x512x208_S11x512x208_S11x512x624_d2

/-- The product with the second band weights. -/
def prod2 (x : FVec Ideal S11x512x624 .bf16) (w : Vec Ideal S624x352 .bf16) : FVec Ideal S5632x352 .bf16 :=
  truncf .bf16 (matmul dot_S5632x624_S624x352_S5632x352_1_0_0_1_n_n none
    (shapeCast S5632x624 x shapeCasts_S11x512x624_S5632x624)
    (shapeCast S624x352 w shapeCasts_S624x352_S624x352 : FVec Ideal S624x352 .bf16) (constant S5632x352 .f32 0x00000000#32)) bitsLt_bf16_f32

/-- The larger of two rows' products, then of the two column halves. -/
def pool2 (y : FVec Ideal S5632x352 .bf16) : FVec Ideal S5x512x160 .bf16 :=
  let z := shapeCast S5x2x512x352 (extractStridedSlice S10x512x352 ![0, 0, 0] (shapeCast S11x512x352 y shapeCasts_S5632x352_S11x512x352)
    slices_S11x512x352_o0_0_0_S10x512x352) shapeCasts_S10x512x352_S5x2x512x352
  let a := shapeCast S5x512x352 (extractStridedSlice S5x1x512x352 ![0, 0, 0, 0] z slices_S5x2x512x352_o0_0_0_0_S5x1x512x352) shapeCasts_S5x1x512x352_S5x512x352
  let b := shapeCast S5x512x352 (extractStridedSlice S5x1x512x352 ![0, 1, 0, 0] z slices_S5x2x512x352_o0_1_0_0_S5x1x512x352) shapeCasts_S5x1x512x352_S5x512x352
  let m := maximumf a b
  maximumf (extractStridedSlice S5x512x160 ![0, 0, 0] m slices_S5x512x352_o0_0_0_S5x512x160)
    (extractStridedSlice S5x512x160 ![0, 0, 160] m slices_S5x512x352_o0_0_160_S5x512x160)

/-- The bias added, then the positive part. -/
def bias2 (y : FVec Ideal S5x512x160 .bf16) (v73 : Vec Ideal S1x160 .bf16) : FVec Ideal S5x512x160 .bf16 :=
  maximumf (addf y (broadcastTo S5x512x160 (shapeCast S1x1x160 (shapeCast S1x160 v73 shapeCasts_S1x160_S1x160) shapeCasts_S1x160_S1x1x160)
    broadcasts_S1x1x160_S5x512x160)) (broadcast S5x512x160 (Scalar.ofBits .bf16 0x0000#16))

/-- The five rows of pooled features side by side. -/
def cols (y : FVec Ideal S5x512x160 .bf16) : FVec Ideal S512x800 .bf16 :=
  concatenate S512x800 1 [
    ⟨S512x160, shapeCast S512x160 (extractStridedSlice S1x512x160 ![0, 0, 0] y slices_S5x512x160_o0_0_0_S1x512x160) shapeCasts_S1x512x160_S512x160⟩,
    ⟨S512x160, shapeCast S512x160 (extractStridedSlice S1x512x160 ![1, 0, 0] y slices_S5x512x160_o1_0_0_S1x512x160) shapeCasts_S1x512x160_S512x160⟩,
    ⟨S512x160, shapeCast S512x160 (extractStridedSlice S1x512x160 ![2, 0, 0] y slices_S5x512x160_o2_0_0_S1x512x160) shapeCasts_S1x512x160_S512x160⟩,
    ⟨S512x160, shapeCast S512x160 (extractStridedSlice S1x512x160 ![3, 0, 0] y slices_S5x512x160_o3_0_0_S1x512x160) shapeCasts_S1x512x160_S512x160⟩,
    ⟨S512x160, shapeCast S512x160 (extractStridedSlice S1x512x160 ![4, 0, 0] y slices_S5x512x160_o4_0_0_S1x512x160) shapeCasts_S1x512x160_S512x160⟩]
    concatenates_S512x160_S512x160_S512x160_S512x160_S512x160_S512x800_d1

theorem pay8_eq (v48 v49 : FVec Ideal S13x512x208 .bf16) (v56 : Vec Ideal S624x352 .bf16) (v73 : Vec Ideal S1x160 .bf16) :
    k0_pay8 v48 v49 v56 v73 = extf .f32 (cols (bias2 (pool2 (prod2 (rows2 (maximumf v48 v49)) v56)) v73)) bitsLt_bf16_f32 := rfl

theorem rows2_apply (h : FVec Ideal S13x512x208 .bf16) (i : Fin 11) (n : Fin 512) (r : Fin 3) (c : Fin 208) :
    rows2 h (ix3 i n ⟨208 * r.val + c.val, by omega⟩) = h (ix3 ⟨i.val + r.val, by omega⟩ n c) := by
  match r with
  | ⟨0, _⟩ => pointwise [rows2]
  | ⟨1, _⟩ =>
    pointwise [rows2]
    exact congrArg h (ix3_eq (by dsimp only; omega) rfl rfl)
  | ⟨2, _⟩ =>
    pointwise [rows2]
    rw [dif_neg (by omega), dif_neg (by omega)]
    exact congrArg h (ix3_eq (by dsimp only; omega) rfl (by dsimp only; omega))

theorem prod2_apply (x : FVec Ideal S11x512x624 .bf16) (w : Vec Ideal S624x352 .bf16) (i : Fin 11) (n : Fin 512) (q : Fin 352) :
    prod2 x w (ix2 ⟨512 * i.val + n.val, by omega⟩ q) = ∑ k : Fin 624, x (ix3 i n k) * w (ix2 k q) := by
  pointwise [prod2]

theorem pool2_apply (y : FVec Ideal S5632x352 .bf16) (i : Fin 5) (n : Fin 512) (q : Fin 160) :
    pool2 y (ix3 i n q) =
      max (max (y (ix2 ⟨512 * (2 * i.val) + n.val, by omega⟩ ⟨q.val, by omega⟩)) (y (ix2 ⟨512 * (2 * i.val + 1) + n.val, by omega⟩ ⟨q.val, by omega⟩)))
        (max (y (ix2 ⟨512 * (2 * i.val) + n.val, by omega⟩ ⟨160 + q.val, by omega⟩)) (y (ix2 ⟨512 * (2 * i.val + 1) + n.val, by omega⟩ ⟨160 + q.val, by omega⟩))) := by
  pointwise [pool2]
  refine congrArg₂ max (congrArg₂ max ?_ ?_) (congrArg₂ max ?_ ?_)
  all_goals exact congrArg y (ix2_eq (by dsimp only; omega) rfl)

theorem cols_apply (y : FVec Ideal S5x512x160 .bf16) (n : Fin 512) (t : Fin 5) (q : Fin 160) :
    cols y (ix2 n ⟨160 * t.val + q.val, by omega⟩) = y (ix3 t n q) := by
  match t with
  | ⟨0, _⟩ => pointwise [cols]
  | ⟨1, _⟩ => pointwise [cols]
  | ⟨2, _⟩ =>
    pointwise [cols]
    rw [dif_neg (by omega), dif_neg (by omega), dif_pos (by omega)]
    exact congrArg y (ix3_eq rfl rfl (by dsimp only; omega))
  | ⟨3, _⟩ =>
    pointwise [cols]
    rw [dif_neg (by omega), dif_neg (by omega), dif_neg (by omega), dif_pos (by omega)]
    exact congrArg y (ix3_eq rfl rfl (by dsimp only; omega))
  | ⟨4, _⟩ =>
    pointwise [cols]
    rw [dif_neg (by omega), dif_neg (by omega), dif_neg (by omega), dif_neg (by omega)]
    exact congrArg y (ix3_eq rfl rfl (by dsimp only; omega))

end Cert.Proof.Stages
-- ==== Proof.Maths.lean ====
module

public import Idealize.ShloMosaic.PureOps.Ideal
public import Idealize.ShloMosaic.Lib.Pointwise

/-! The mathematics both programs compute, over the extended reals, and the sums it rests on. -/

@[expose] public section
noncomputable section
namespace Cert.Proof.Maths
open Idealize.ShloMosaic

/-- One output of the first 3x3 convolution: one channel in, sixteen out. -/
def conv1 (X : Fin 28 → Fin 28 → EReal) (K : Fin 3 → Fin 3 → Fin 16 → EReal) (i j : Fin 26) (o : Fin 16) : EReal :=
  ∑ r : Fin 3, ∑ d : Fin 3, X ⟨i.val + r.val, by omega⟩ ⟨j.val + d.val, by omega⟩ * K r d o

/-- The first layer: the 2x2 maximum of the convolution, the bias, the positive part. -/
def layer1 (X : Fin 28 → Fin 28 → EReal) (K : Fin 3 → Fin 3 → Fin 16 → EReal) (B : Fin 16 → EReal)
    (i j : Fin 13) (o : Fin 16) : EReal :=
  max (max (max (conv1 X K ⟨2 * i.val, by omega⟩ ⟨2 * j.val, by omega⟩ o) (conv1 X K ⟨2 * i.val + 1, by omega⟩ ⟨2 * j.val, by omega⟩ o))
    (max (conv1 X K ⟨2 * i.val, by omega⟩ ⟨2 * j.val + 1, by omega⟩ o) (conv1 X K ⟨2 * i.val + 1, by omega⟩ ⟨2 * j.val + 1, by omega⟩ o))
    + B o) 0

/-- One output of the second 3x3 convolution: sixteen channels in, thirty-two out. -/
def conv2 (H : Fin 13 → Fin 13 → Fin 16 → EReal) (K : Fin 3 → Fin 3 → Fin 16 → Fin 32 → EReal) (i j : Fin 11) (o : Fin 32) : EReal :=
  ∑ r : Fin 3, ∑ d : Fin 3, ∑ ch : Fin 16, H ⟨i.val + r.val, by omega⟩ ⟨j.val + d.val, by omega⟩ ch * K r d ch o

/-- The second layer: the 2x2 maximum of the convolution (its last row and column unread), the bias, the positive part. -/
def layer2 (H : Fin 13 → Fin 13 → Fin 16 → EReal) (K : Fin 3 → Fin 3 → Fin 16 → Fin 32 → EReal) (B : Fin 32 → EReal)
    (i j : Fin 5) (o : Fin 32) : EReal :=
  max (max (max (conv2 H K ⟨2 * i.val, by omega⟩ ⟨2 * j.val, by omega⟩ o) (conv2 H K ⟨2 * i.val + 1, by omega⟩ ⟨2 * j.val, by omega⟩ o))
    (max (conv2 H K ⟨2 * i.val, by omega⟩ ⟨2 * j.val + 1, by omega⟩ o) (conv2 H K ⟨2 * i.val + 1, by omega⟩ ⟨2 * j.val + 1, by omega⟩ o))
    + B o) 0

/-- The 800 features of one image: row, column and channel of the second layer, flattened. -/
def feat (X : Fin 28 → Fin 28 → EReal) (K1 : Fin 3 → Fin 3 → Fin 16 → EReal) (B1 : Fin 16 → EReal)
    (K2 : Fin 3 → Fin 3 → Fin 16 → Fin 32 → EReal) (B2 : Fin 32 → EReal) (k : Fin 800) : EReal :=
  layer2 (layer1 X K1 B1) K2 B2 ⟨k.val / 160, by omega⟩ ⟨k.val % 160 / 32, by omega⟩ ⟨k.val % 32, by omega⟩

/-- The attention score of one row of features: a tanh layer of 128 units, a linear unit, the logistic function. -/
def score (g : Fin 800 → EReal) (W : Fin 800 → Fin 128 → EReal) (b w : Fin 128 → EReal) (bo : EReal) : EReal :=
  Ideal.logistic (∑ q : Fin 128, Ideal.tanh (∑ k : Fin 800, g k * W k q + b q) * w q + bo)

/-- The softmax weight of position `n` among the scores `s`. -/
def weight {N : Nat} (s : Fin N → EReal) (n : Fin N) : EReal :=
  Ideal.div (Ideal.exp (s n)) (∑ m, Ideal.exp (s m))

/-- The weighted sum of the rows whose label names bag `i`. -/
def bag {N M : Nat} (lab : Fin N → BitVec 32) (g : Fin N → Fin 800 → EReal) (s : Fin N → EReal) (i : Fin M) (k : Fin 800) : EReal :=
  ∑ n ∈ Finset.univ.filter (fun n => lab n = BitVec.ofNat 32 i.val), g n k * weight s n

/-- The last two linear layers and the logistic function. -/
def head (u : Fin 800 → EReal) (Wc : Fin 800 → Fin 256 → EReal) (bc wco : Fin 256 → EReal) (bco : EReal) : EReal :=
  Ideal.logistic (∑ q : Fin 256, (∑ k : Fin 800, u k * Wc k q + bc q) * wco q + bco)

/-- A sum over `m * n` positions is a sum over `m` rows of `n`. -/
theorem sum_rows {M : Type} [AddCommMonoid M] (m n N : Nat) (h : N = m * n) (f : Fin N → M) :
    ∑ k, f k = ∑ r : Fin m, ∑ c : Fin n, f ⟨n * r.val + c.val, by
      subst h; calc n * r.val + c.val < n * r.val + n := by omega
        _ = n * (r.val + 1) := by ring
        _ ≤ n * m := Nat.mul_le_mul_left _ r.isLt
        _ = m * n := Nat.mul_comm ..⟩ := by
  subst h
  rw [← Finset.sum_product', Finset.univ_product_univ, ← finProdFinEquiv.sum_comp]
  refine Finset.sum_congr rfl fun p _ => congrArg f (Fin.ext ?_)
  simp [finProdFinEquiv, Nat.add_comm]

/-- A row times a band of ones at the offset `j + d`, the band weighted by `g`, keeps the three products on the band. -/
theorem band_sum {N : Nat} (x : Fin N → EReal) (g : Fin 3 → EReal) (j : Nat) (hj : j + 2 < N) :
    ∑ c : Fin N, x c * ∑ d : Fin 3, g d * (if c.val = j + d.val then 1 else 0)
      = ∑ d : Fin 3, x ⟨j + d.val, by omega⟩ * g d := by
  have key : ∀ c : Fin N, x c * ∑ d : Fin 3, g d * (if c.val = j + d.val then 1 else 0)
      = ∑ d : Fin 3, if c = ⟨j + d.val, by omega⟩ then x c * g d else 0 := by
    intro c
    simp only [Fin.sum_univ_three, Fin.ext_iff]
    by_cases h0 : c.val = j + (0 : Fin 3).val
    · have h1 : ¬ c.val = j + (1 : Fin 3).val := by simp at h0 ⊢; omega
      have h2 : ¬ c.val = j + (2 : Fin 3).val := by simp at h0 ⊢; omega
      simp only [if_pos h0, if_neg h1, if_neg h2]; simp
    · by_cases h1 : c.val = j + (1 : Fin 3).val
      · have h2 : ¬ c.val = j + (2 : Fin 3).val := by simp at h1 ⊢; omega
        simp only [if_neg h0, if_pos h1, if_neg h2]; simp
      · simp only [if_neg h0, if_neg h1]
        by_cases h2 : c.val = j + (2 : Fin 3).val
        · simp only [if_pos h2]; simp
        · simp only [if_neg h2]; simp
  rw [Finset.sum_congr rfl fun c _ => key c, Finset.sum_comm]
  refine Finset.sum_congr rfl fun d _ => ?_
  rw [Finset.sum_ite_eq' Finset.univ _ fun c => x c * g d, if_pos (Finset.mem_univ _)]

/-- A logistic value is a real number. -/
theorem logistic_real (x : EReal) : ∃ r : ℝ, Ideal.logistic x = (r : EReal) := by
  induction x using EReal.rec with
  | bot => exact ⟨0, by rw [Ideal.logistic_bot]; rfl⟩
  | top => exact ⟨1, by rw [Ideal.logistic_top]; rfl⟩
  | coe r => exact ⟨_, Ideal.logistic_coe r⟩

/-- A finite sum of reals is that sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite nonnegative factor is shared out over a sum of any extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of the exponentials of real scores is a positive real. -/
theorem exp_sum_pos {N : Nat} (hN : 0 < N) (s : Fin N → EReal) (hs : ∀ n, ∃ r : ℝ, s n = (r : EReal)) :
    ∃ d : ℝ, 0 < d ∧ ∑ m, Ideal.exp (s m) = (d : EReal) := by
  choose r hr using hs
  refine ⟨∑ m, Real.exp (r m), ?_, ?_⟩
  · haveI : Nonempty (Fin N) := ⟨⟨0, hN⟩⟩
    exact Finset.sum_pos (fun m _ => Real.exp_pos _) Finset.univ_nonempty
  · rw [coe_sum]
    exact Finset.sum_congr rfl fun m _ => by rw [hr, Ideal.exp_coe]

/-- The softmax of real scores does not change when a real number is taken from every score. -/
theorem weight_shift {N : Nat} (s : Fin N → EReal) (hs : ∀ n, ∃ r : ℝ, s n = (r : EReal)) (mx : ℝ) (n : Fin N) :
    Ideal.div (Ideal.exp (s n - (mx : EReal))) (∑ m, Ideal.exp (s m - (mx : EReal))) = weight s n := by
  have hN : 0 < N := n.pos
  haveI : Nonempty (Fin N) := ⟨n⟩
  choose r hr using hs
  have e1 : ∀ m, Ideal.exp (s m - (mx : EReal)) = ((Real.exp (r m - mx) : ℝ) : EReal) := fun m => by
    rw [hr, ← EReal.coe_sub, Ideal.exp_coe]
  have e2 : ∀ m, Ideal.exp (s m) = ((Real.exp (r m) : ℝ) : EReal) := fun m => by rw [hr, Ideal.exp_coe]
  have p1 : 0 < ∑ m, Real.exp (r m - mx) := Finset.sum_pos (fun m _ => Real.exp_pos _) Finset.univ_nonempty
  have p2 : 0 < ∑ m, Real.exp (r m) := Finset.sum_pos (fun m _ => Real.exp_pos _) Finset.univ_nonempty
  unfold weight
  simp only [e1, e2]
  rw [← coe_sum, ← coe_sum, Ideal.div_coe p1.ne', Ideal.div_coe p2.ne', ← EReal.coe_mul, ← EReal.coe_mul]
  congr 1
  have : ∑ m, Real.exp (r m - mx) = (∑ m, Real.exp (r m)) * Real.exp (-mx) := by
    rw [Finset.sum_mul]
    exact Finset.sum_congr rfl fun m _ => by rw [← Real.exp_add]; rfl
  rw [this, sub_eq_add_neg, Real.exp_add]
  have h3 := Real.exp_ne_zero (-mx)
  have h4 := p2.ne'
  field_simp

/-- The maximum of finitely many reals, at least one, is a real. -/
theorem fold_max_real {N : Nat} (hN : 0 < N) (s : Fin N → EReal) (hs : ∀ n, ∃ r : ℝ, s n = (r : EReal)) :
    ∃ r : ℝ, Finset.univ.fold max ⊥ s = (r : EReal) := by
  have hlo : Finset.univ.fold max ⊥ s ≠ ⊥ := by
    intro h
    have : s ⟨0, hN⟩ ≤ Finset.univ.fold max ⊥ s := (Finset.le_fold_max _).2 (Or.inr ⟨_, Finset.mem_univ _, le_rfl⟩)
    rw [h] at this
    obtain ⟨r, hr⟩ := hs ⟨0, hN⟩
    rw [hr] at this
    exact absurd (le_bot_iff.1 this) (EReal.coe_ne_bot r)
  have hhi : Finset.univ.fold max ⊥ s ≠ ⊤ := by
    refine ne_of_lt ((Finset.fold_max_lt _).2 ⟨bot_lt_top, fun n _ => ?_⟩)
    obtain ⟨r, hr⟩ := hs n
    rw [hr]; exact EReal.coe_lt_top r
  exact ⟨_, (EReal.coe_toReal hhi hlo).symm⟩

/-- Weighting by exponentials first and dividing the one-hot sum afterwards is the weighted sum of the bag. -/
theorem bag_of_onehot {N M : Nat} (hN : 0 < N) (lab : Fin N → BitVec 32) (g : Fin N → Fin 800 → EReal) (s : Fin N → EReal)
    (hs : ∀ n, ∃ r : ℝ, s n = (r : EReal)) (i : Fin M) (k : Fin 800) :
    Ideal.div (∑ n, (if lab n = BitVec.ofNat 32 i.val then (1 : EReal) else 0) * (g n k * Ideal.exp (s n))) (∑ m, Ideal.exp (s m))
      = bag lab g s i k := by
  obtain ⟨d, hd, hD⟩ := exp_sum_pos hN s hs
  unfold bag weight
  rw [hD, Ideal.div_coe hd.ne', sum_mul_coe _ _ _ (by positivity), Finset.sum_filter]
  refine Finset.sum_congr rfl fun n _ => ?_
  rw [Ideal.div_coe hd.ne']
  split
  · rw [one_mul, mul_assoc]
  · rw [zero_mul, zero_mul]

end Cert.Proof.Maths
-- ==== Proof.Block.lean ====
module

public import proofs.«01_k».proof.Proof.Stages
public import proofs.«01_k».proof.Proof.Maths

/-! The features that the first kernel computes of one image of a block are the two-layer features of that image,
    given band weights laid out as the host lays them out. -/

@[expose] public section
noncomputable section
namespace Cert.Proof.Block
open Idealize.ShloMosaic Cert.KernelIdeal Cert.KernelIdeal.Gen Cert.Proof.Stages Cert.Proof.Maths

set_option maxRecDepth 16384
set_option maxHeartbeats 1000000

variable (v0 : Vec Ideal S512x28x28 .f32) (v31 : Vec Ideal S84x416 .bf16) (v44 : Vec Ideal S1x208 .bf16)
  (v56 : Vec Ideal S624x352 .bf16) (v73 : Vec Ideal S1x160 .bf16)
  (K1 : Fin 3 → Fin 3 → Fin 16 → EReal) (B1 : Fin 16 → EReal)
  (K2 : Fin 3 → Fin 3 → Fin 16 → Fin 32 → EReal) (B2 : Fin 32 → EReal)

/-- The first band weights: row `28 r + c`, column half `h`, position `j`, channel `o` hold the kernel's row `r` where
    the pixel column `c` is under it. -/
def Band1 : Prop := ∀ (r : Fin 3) (c : Fin 28) (h : Fin 2) (j : Fin 13) (o : Fin 16),
  v31 (ix2 ⟨28 * r.val + c.val, by omega⟩ ⟨208 * h.val + (16 * j.val + o.val), by omega⟩)
    = ∑ d : Fin 3, K1 r d o * (if c.val = 2 * j.val + h.val + d.val then 1 else 0)

/-- The second band weights, likewise, with sixteen channels in. -/
def Band2 : Prop := ∀ (r : Fin 3) (c : Fin 13) (ch : Fin 16) (h : Fin 2) (j : Fin 5) (o : Fin 32),
  v56 (ix2 ⟨208 * r.val + (16 * c.val + ch.val), by omega⟩ ⟨160 * h.val + (32 * j.val + o.val), by omega⟩)
    = ∑ d : Fin 3, K2 r d ch o * (if c.val = 2 * j.val + h.val + d.val then 1 else 0)

/-- The product of the windows with the first band weights is the first convolution. -/
theorem prod1_conv (h31 : Band1 v31 K1) (I : Fin 26) (n : Fin 512) (h : Fin 2) (j : Fin 13) (o : Fin 16) :
    prod1 (rows (flat v0)) v31 (ix2 ⟨512 * I.val + n.val, by omega⟩ ⟨208 * h.val + (16 * j.val + o.val), by omega⟩)
      = conv1 (fun a b => v0 (ix3 n a b)) K1 I ⟨2 * j.val + h.val, by omega⟩ o := by
  rw [prod1_apply, sum_rows 3 28 84 rfl]
  unfold conv1
  refine Finset.sum_congr rfl fun r _ => ?_
  rw [← band_sum (fun c => v0 (ix3 n ⟨I.val + r.val, by omega⟩ c)) (fun d => K1 r d o) (2 * j.val + h.val) (by omega)]
  refine Finset.sum_congr rfl fun c _ => ?_
  rw [rows_apply, flat_apply, h31]
  refine congrArg (fun z => v0 z * _) (ix3_eq rfl ?_ ?_)
  · dsimp only; omega
  · dsimp only; omega

/-- The first layer as the kernel computes it. -/
theorem layer1_apply (h31 : Band1 v31 K1) (h44 : ∀ (j : Fin 13) (o : Fin 16), v44 (ix2 0 ⟨16 * j.val + o.val, by omega⟩) = B1 o)
    (i : Fin 13) (n : Fin 512) (j : Fin 13) (o : Fin 16) :
    maximumf (k0_pay6 v0 v31 v44) (k0_pay7 : FVec Ideal S13x512x208 .bf16) (ix3 i n ⟨16 * j.val + o.val, by omega⟩)
      = layer1 (fun a b => v0 (ix3 n a b)) K1 B1 i j o := by
  have e0 : ∀ I : Fin 26, prod1 (rows (flat v0)) v31 (ix2 ⟨512 * I.val + n.val, by omega⟩ ⟨16 * j.val + o.val, by omega⟩)
      = conv1 (fun a b => v0 (ix3 n a b)) K1 I ⟨2 * j.val, by omega⟩ o := fun I =>
    (congrArg _ (ix2_eq rfl (by simp))).trans (prod1_conv v0 v31 K1 h31 I n 0 j o)
  have e1 : ∀ I : Fin 26, prod1 (rows (flat v0)) v31 (ix2 ⟨512 * I.val + n.val, by omega⟩ ⟨208 + (16 * j.val + o.val), by omega⟩)
      = conv1 (fun a b => v0 (ix3 n a b)) K1 I ⟨2 * j.val + 1, by omega⟩ o := fun I =>
    (congrArg _ (ix2_eq rfl (by simp))).trans (prod1_conv v0 v31 K1 h31 I n 1 j o)
  rw [pay6_eq]
  pointwise [k0_pay7]
  rw [pool1_apply, e0 ⟨2 * i.val, by omega⟩, e0 ⟨2 * i.val + 1, by omega⟩, e1 ⟨2 * i.val, by omega⟩, e1 ⟨2 * i.val + 1, by omega⟩, h44]
  rfl

/-- The product with the second band weights is the second convolution, of rows that hold the first layer. -/
theorem prod2_conv (h56 : Band2 v56 K2) (x : FVec Ideal S13x512x208 .bf16) (n : Fin 512) (H : Fin 13 → Fin 13 → Fin 16 → EReal)
    (hx : ∀ (i : Fin 13) (j : Fin 13) (o : Fin 16), x (ix3 i n ⟨16 * j.val + o.val, by omega⟩) = H i j o)
    (I : Fin 11) (h : Fin 2) (j : Fin 5) (o : Fin 32) :
    prod2 (rows2 x) v56 (ix2 ⟨512 * I.val + n.val, by omega⟩ ⟨160 * h.val + (32 * j.val + o.val), by omega⟩)
      = conv2 H K2 I ⟨2 * j.val + h.val, by omega⟩ o := by
  rw [prod2_apply, sum_rows 3 208 624 rfl]
  unfold conv2
  refine Finset.sum_congr rfl fun r _ => ?_
  rw [sum_rows 13 16 208 rfl, Finset.sum_comm]
  rw [Finset.sum_comm (s := (Finset.univ : Finset (Fin 3)))]
  refine Finset.sum_congr rfl fun ch _ => ?_
  rw [← band_sum (fun c => H ⟨I.val + r.val, by omega⟩ c ch) (fun d => K2 r d ch o) (2 * j.val + h.val) (by omega)]
  refine Finset.sum_congr rfl fun c _ => ?_
  rw [rows2_apply x I n r ⟨16 * c.val + ch.val, by omega⟩, hx, h56]

/-- The kernel's features of image `n` of a block. -/
theorem feat_apply (h31 : Band1 v31 K1) (h44 : ∀ (j : Fin 13) (o : Fin 16), v44 (ix2 0 ⟨16 * j.val + o.val, by omega⟩) = B1 o)
    (h56 : Band2 v56 K2) (h73 : ∀ (j : Fin 5) (o : Fin 32), v73 (ix2 0 ⟨32 * j.val + o.val, by omega⟩) = B2 o)
    (n : Fin 512) (k : Fin 800) :
    k0_pay8 (k0_pay6 v0 v31 v44) (k0_pay7 : FVec Ideal S13x512x208 .bf16) v56 v73 (ix2 n k)
      = feat (fun a b => v0 (ix3 n a b)) K1 B1 K2 B2 k := by
  have hx := fun i j o => layer1_apply v0 v31 v44 K1 B1 h31 h44 i n j o
  rw [pay8_eq]
  generalize maximumf (k0_pay6 v0 v31 v44) (k0_pay7 : FVec Ideal S13x512x208 .bf16) = x at hx ⊢
  obtain ⟨t, ht⟩ : ∃ t : Fin 5, t.val = k.val / 160 := ⟨⟨k.val / 160, by omega⟩, rfl⟩
  obtain ⟨j, hj⟩ : ∃ j : Fin 5, j.val = k.val % 160 / 32 := ⟨⟨k.val % 160 / 32, by omega⟩, rfl⟩
  obtain ⟨o, ho⟩ : ∃ o : Fin 32, o.val = k.val % 32 := ⟨⟨k.val % 32, by omega⟩, rfl⟩
  have hk : k = ⟨160 * t.val + (32 * j.val + o.val), by omega⟩ := Fin.ext (by dsimp only; omega)
  have hf : feat (fun a b => v0 (ix3 n a b)) K1 B1 K2 B2 k = layer2 (layer1 (fun a b => v0 (ix3 n a b)) K1 B1) K2 B2 t j o := by
    unfold feat
    rw [show (⟨k.val / 160, by omega⟩ : Fin 5) = t from Fin.ext ht.symm, show (⟨k.val % 160 / 32, by omega⟩ : Fin 5) = j from Fin.ext hj.symm,
      show (⟨k.val % 32, by omega⟩ : Fin 32) = o from Fin.ext ho.symm]
  rw [hf, hk]
  generalize layer1 (fun a b => v0 (ix3 n a b)) K1 B1 = H at hx ⊢
  show cols (bias2 (pool2 (prod2 (rows2 x) v56)) v73) (ix2 n ⟨160 * t.val + (⟨32 * j.val + o.val, by omega⟩ : Fin 160).val, by omega⟩) = _
  rw [cols_apply]
  have e0 : ∀ I : Fin 11, prod2 (rows2 x) v56 (ix2 ⟨512 * I.val + n.val, by omega⟩ ⟨32 * j.val + o.val, by omega⟩)
      = conv2 H K2 I ⟨2 * j.val, by omega⟩ o := fun I =>
    (congrArg _ (ix2_eq rfl (by simp))).trans (prod2_conv v56 K2 h56 x n H hx I 0 j o)
  have e1 : ∀ I : Fin 11, prod2 (rows2 x) v56 (ix2 ⟨512 * I.val + n.val, by omega⟩ ⟨160 + (32 * j.val + o.val), by omega⟩)
      = conv2 H K2 I ⟨2 * j.val + 1, by omega⟩ o := fun I =>
    (congrArg _ (ix2_eq rfl (by simp))).trans (prod2_conv v56 K2 h56 x n H hx I 1 j o)
  pointwise [bias2]
  rw [pool2_apply, e0 ⟨2 * t.val, by omega⟩, e0 ⟨2 * t.val + 1, by omega⟩, e1 ⟨2 * t.val, by omega⟩, e1 ⟨2 * t.val + 1, by omega⟩, h73]
  rfl

end Cert.Proof.Block
-- ==== Proof.Tables.lean ====
module

public import proofs.«01_k».proof.Proof.Gen.KernelIdeal.Launch
public import Idealize.ShloMosaic.Lib.Pointwise

/-! The two tables of zeros and ones the host lines multiply the weights with. -/

@[expose] public section
set_option maxRecDepth 16384
noncomputable section
namespace Cert.Proof.Tables
open Idealize.ShloMosaic Idealize.ShloMosaic.TcCoe
open Cert.KernelIdeal Cert.KernelIdeal.Gen

/-- The first table of zeros and ones: one exactly where the row is the column plus the tap. -/
theorem table0 : ∀ (d : Fin 3) (c : Fin 28) (j : Fin 26), lit0t ((d.val * 28 + c.val) * 26 + j.val) = if c.val = j.val + d.val then 0x3F800000#32 else 0x00000000#32 := by
  decide +kernel

/-- The second table of zeros and ones. -/
theorem table1 : ∀ (d : Fin 3) (c : Fin 13) (j : Fin 11), lit1 ⟨(d.val * 13 + c.val) * 11 + j.val, by omega⟩ = if c.val = j.val + d.val then 0x3F800000#32 else 0x00000000#32 := by
  decide +kernel

/-- The first table, at an index. -/
theorem table0_at (d : Fin 3) (c : Fin 28) (j : Fin 26) :
    (FloatOps.ofBits .f32 (lit0 (S3x28x26.rowMajor (ix3 d c j))) : Ideal .f32) = if c.val = j.val + d.val then 1 else 0 := by
  have h : lit0 (S3x28x26.rowMajor (ix3 d c j)) = lit0t ((d.val * 28 + c.val) * 26 + j.val) := by
    show lit0t (S3x28x26.rowMajor (ix3 d c j)).val = _
    congr 1
    exact Shape.rowMajor_val_three (ix3 d c j)
  rw [h, table0]
  split
  · exact Ideal.ofBits_one_f32
  · exact Ideal.ofBits_zero_f32

/-- The second table, at an index. -/
theorem table1_at (d : Fin 3) (c : Fin 13) (j : Fin 11) :
    (FloatOps.ofBits .f32 (lit1 (S3x13x11.rowMajor (ix3 d c j))) : Ideal .f32) = if c.val = j.val + d.val then 1 else 0 := by
  have h : lit1 (S3x13x11.rowMajor (ix3 d c j)) = lit1 ⟨(d.val * 13 + c.val) * 11 + j.val, by omega⟩ := by
    congr 1
    exact Fin.ext (Shape.rowMajor_val_three (ix3 d c j))
  rw [h, table1]
  split
  · exact Ideal.ofBits_one_f32
  · exact Ideal.ofBits_zero_f32

end Cert.Proof.Tables
-- ==== Proof.Region0.lean ====
module

public import proofs.«01_k».proof.Proof.Gen.KernelIdeal.Frame
public import Idealize.ShloMosaic.Lib.Pipeline.Value
public import Idealize.ShloMosaic.Lib.Pointwise

/-! What the first kernel call leaves in its two result arrays: the running sums over the sixteen grid points. -/

@[expose] public section
set_option maxRecDepth 16384
noncomputable section
namespace Cert.Proof.Region0
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The weighted-sum array after one more block: its features, weighted, added into the bags of its labels. -/
def step10 (x0 : Vec Ideal S512x28x28 .f32) (x1 : Vec Ideal S1x1x512 .i32) (x2 : Vec Ideal S84x416 .bf16) (x3 : Vec Ideal S1x208 .bf16)
    (x4 : Vec Ideal S624x352 .bf16) (x5 : Vec Ideal S1x160 .bf16) (x6 : Vec Ideal S800x128 .f32) (x7 : Vec Ideal S1x128 .f32)
    (x8 : Vec Ideal S128x1 .f32) (x9 : Vec Ideal S1x1 .f32) (acc : Vec Ideal S256x800 .f32) : Vec Ideal S256x800 .f32 :=
  k0_pay4 (k0_pay8 (k0_pay6 x0 x2 x3) k0_pay7 x4 x5) (k0_pay9 (k0_pay6 x0 x2 x3) k0_pay7 x4 x5 x6 x7) x8 x9 x1 acc

/-- The sum of exponentials after one more block. -/
def step11 (x0 : Vec Ideal S512x28x28 .f32) (x2 : Vec Ideal S84x416 .bf16) (x3 : Vec Ideal S1x208 .bf16)
    (x4 : Vec Ideal S624x352 .bf16) (x5 : Vec Ideal S1x160 .bf16) (x6 : Vec Ideal S800x128 .f32) (x7 : Vec Ideal S1x128 .f32)
    (x8 : Vec Ideal S128x1 .f32) (x9 : Vec Ideal S1x1 .f32) (acc : Vec Ideal S1x1 .f32) : Vec Ideal S1x1 .f32 :=
  k0_pay5 (k0_pay9 (k0_pay6 x0 x2 x3) k0_pay7 x4 x5 x6 x7) x8 x9 acc

/-- `step10` at grid point `t`'s blocks. -/
def stepAt10 (c : Dev nD) (t : Fin cfg0.N) (acc : Vec Ideal S256x800 .f32) : Vec Ideal S256x800 .f32 :=
  step10 (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) acc

/-- `step11` at grid point `t`'s blocks. -/
def stepAt11 (c : Dev nD) (t : Fin cfg0.N) (acc : Vec Ideal S1x1 .f32) : Vec Ideal S1x1 .f32 :=
  step11 (iblk0 V c 0 t) (iblk0 V c 2 t) (iblk0 V c 3 t) (iblk0 V c 4 t) (iblk0 V c 5 t) (iblk0 V c 6 t)
    (iblk0 V c 7 t) (iblk0 V c 8 t) (iblk0 V c 9 t) acc

set_option maxHeartbeats 4000000 in
/-- A later point's two stores: one more step over what the point before left. -/
theorem outs_B (c : Dev nD) (t : Fin cfg0.N) (h0 : ¬t.val % 16 = 0) : outsAt0 V c t.val t.isLt
    = (stepAt10 V c t (outsAt0 V c (t.val - 1) (Nat.lt_of_le_of_lt (Nat.sub_le _ _) t.isLt)).1,
       stepAt11 V c t (outsAt0 V c (t.val - 1) (Nat.lt_of_le_of_lt (Nat.sub_le _ _) t.isLt)).2) := by
  rw [outsAt0_B V c t h0]
  generalize (outsAt0 V c (t.val - 1) (Nat.lt_of_le_of_lt (Nat.sub_le _ _) t.isLt)) = p
  refine Prod.ext ?_ ?_
  · dsimp only
    unfold out0_B_10 stepAt10 step10
    rw [View.read_writes_eq_canon _ _ _ (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2)]
    unfold kernelRun0_B
    dsimp only
    sl_unfold_words
    rw [View.canon_unit_zero hz2]
    simp only [View.readAt_eq_ld, Memref.IsWhole.read_unread, View.ld_unit_zero (S := S512x28x28) hz3, View.ld_unit_zero (S := S1x1x512) hz3,
      View.ld_unit_zero (S := S84x416) hz2, View.ld_unit_zero (S := S1x208) hz2, View.ld_unit_zero (S := S624x352) hz2, View.ld_unit_zero (S := S1x160) hz2,
      View.ld_unit_zero (S := S800x128) hz2, View.ld_unit_zero (S := S1x128) hz2, View.ld_unit_zero (S := S128x1) hz2, View.ld_unit_zero (S := S1x1) hz2,
      View.ld_unit_zero (S := S256x800) hz2]
  · dsimp only
    unfold out0_B_11 stepAt11 step11
    rw [View.read_writes_eq_canon _ _ _ (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2)]
    unfold kernelRun0_B
    dsimp only
    sl_unfold_words
    rw [View.canon_unit_zero hz2]
    simp only [View.readAt_eq_ld, Memref.IsWhole.read_unread, View.ld_unit_zero (S := S512x28x28) hz3, View.ld_unit_zero (S := S1x1x512) hz3,
      View.ld_unit_zero (S := S84x416) hz2, View.ld_unit_zero (S := S1x208) hz2, View.ld_unit_zero (S := S624x352) hz2, View.ld_unit_zero (S := S1x160) hz2,
      View.ld_unit_zero (S := S800x128) hz2, View.ld_unit_zero (S := S1x128) hz2, View.ld_unit_zero (S := S128x1) hz2, View.ld_unit_zero (S := S1x1) hz2,
      View.ld_unit_zero (S := S256x800) hz2]

set_option maxHeartbeats 4000000 in
/-- The first point's stores: one step over zeros. -/
theorem outs_A (c : Dev nD) (t : Fin cfg0.N) (h0 : t.val % 16 = 0) : outsAt0 V c t.val t.isLt
    = (stepAt10 V c t (k0_pay2 (F := Ideal)), stepAt11 V c t (k0_pay3 (F := Ideal))) := by
  rw [outsAt0_A V c t h0]
  refine Prod.ext ?_ ?_
  · dsimp only
    unfold out0_A_10 stepAt10 step10
    rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t))]
    unfold kernelRun0_A
    dsimp only
    sl_unfold_words
    rw [View.canon_cons_unit_zero (S := S256x800) hz2, View.readCov_unit_zero (S := S256x800) _ hz2]
    simp only [View.readAt_eq_ld, Memref.IsWhole.read_unread, View.ld_unit_zero (S := S512x28x28) hz3, View.ld_unit_zero (S := S1x1x512) hz3,
      View.ld_unit_zero (S := S84x416) hz2, View.ld_unit_zero (S := S1x208) hz2, View.ld_unit_zero (S := S624x352) hz2, View.ld_unit_zero (S := S1x160) hz2,
      View.ld_unit_zero (S := S800x128) hz2, View.ld_unit_zero (S := S1x128) hz2, View.ld_unit_zero (S := S128x1) hz2, View.ld_unit_zero (S := S1x1) hz2,
      View.ld_unit_zero (S := S256x800) hz2]
  · dsimp only
    unfold out0_A_11 stepAt11 step11
    rw [View.read_writes_eq_canon _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t))]
    unfold kernelRun0_A
    dsimp only
    sl_unfold_words
    rw [View.canon_cons_unit_zero (S := S1x1) hz2, View.readCov_unit_zero (S := S1x1) _ hz2]
    simp only [View.readAt_eq_ld, Memref.IsWhole.read_unread, View.ld_unit_zero (S := S512x28x28) hz3, View.ld_unit_zero (S := S1x1x512) hz3,
      View.ld_unit_zero (S := S84x416) hz2, View.ld_unit_zero (S := S1x208) hz2, View.ld_unit_zero (S := S624x352) hz2, View.ld_unit_zero (S := S1x160) hz2,
      View.ld_unit_zero (S := S800x128) hz2, View.ld_unit_zero (S := S1x128) hz2, View.ld_unit_zero (S := S128x1) hz2, View.ld_unit_zero (S := S1x1) hz2,
      View.ld_unit_zero (S := S256x800) hz2]

/-- The two arrays after the last point. -/
abbrev last (c : Dev nD) : Vec Ideal S256x800 .f32 × Vec Ideal S1x1 .f32 :=
  outsAt0 V c 15 (by rw [show cfg0.N = 16 from N_0]; decide)

end Cert.Proof.Region0
-- ==== Proof.Arrays0.lean ====
module

public import proofs.«01_k».proof.Proof.Region0

/-! The first kernel call's arrays: the blocks it reads, and what its two result arrays end holding. -/

@[expose] public section
set_option maxRecDepth 16384
noncomputable section
namespace Cert.Proof.Region0
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Window 2 stages its whole array at every grid point. -/
theorem blk2 (c : Dev nD) (t : Fin cfg0.N) : (iblk0 V c 2 t : Vec Ideal S84x416 .bf16) = V c main_v17 := by
  have hz' : (fun a => win0_2.index t a * main_v17.ty.shape.size a) = fun _ => 0 := funext fun a => by
    have h : win0_2.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_v17 hz' (fun a => by rw [congrFun hz' a]; simp) (V c main_v17)

/-- Window 3 stages its whole array at every grid point. -/
theorem blk3 (c : Dev nD) (t : Fin cfg0.N) : (iblk0 V c 3 t : Vec Ideal S1x208 .bf16) = V c main_v23 := by
  have hz' : (fun a => win0_3.index t a * main_v23.ty.shape.size a) = fun _ => 0 := funext fun a => by
    have h : win0_3.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_v23 hz' (fun a => by rw [congrFun hz' a]; simp) (V c main_v23)

/-- Window 4 stages its whole array at every grid point. -/
theorem blk4 (c : Dev nD) (t : Fin cfg0.N) : (iblk0 V c 4 t : Vec Ideal S624x352 .bf16) = V c main_v18 := by
  have hz' : (fun a => win0_4.index t a * main_v18.ty.shape.size a) = fun _ => 0 := funext fun a => by
    have h : win0_4.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_v18 hz' (fun a => by rw [congrFun hz' a]; simp) (V c main_v18)

/-- Window 5 stages its whole array at every grid point. -/
theorem blk5 (c : Dev nD) (t : Fin cfg0.N) : (iblk0 V c 5 t : Vec Ideal S1x160 .bf16) = V c main_v28 := by
  have hz' : (fun a => win0_5.index t a * main_v28.ty.shape.size a) = fun _ => 0 := funext fun a => by
    have h : win0_5.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_v28 hz' (fun a => by rw [congrFun hz' a]; simp) (V c main_v28)

/-- Window 6 stages its whole array at every grid point. -/
theorem blk6 (c : Dev nD) (t : Fin cfg0.N) : (iblk0 V c 6 t : Vec Ideal S800x128 .f32) = V c main_arg7 := by
  have hz' : (fun a => win0_6.index t a * main_arg7.ty.shape.size a) = fun _ => 0 := funext fun a => by
    have h : win0_6.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_arg7 hz' (fun a => by rw [congrFun hz' a]; simp) (V c main_arg7)

/-- Window 7 stages its whole array at every grid point. -/
theorem blk7 (c : Dev nD) (t : Fin cfg0.N) : (iblk0 V c 7 t : Vec Ideal S1x128 .f32) = V c main_v29 := by
  have hz' : (fun a => win0_7.index t a * main_v29.ty.shape.size a) = fun _ => 0 := funext fun a => by
    have h : win0_7.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_v29 hz' (fun a => by rw [congrFun hz' a]; simp) (V c main_v29)

/-- Window 8 stages its whole array at every grid point. -/
theorem blk8 (c : Dev nD) (t : Fin cfg0.N) : (iblk0 V c 8 t : Vec Ideal S128x1 .f32) = V c main_arg9 := by
  have hz' : (fun a => win0_8.index t a * main_arg9.ty.shape.size a) = fun _ => 0 := funext fun a => by
    have h : win0_8.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_arg9 hz' (fun a => by rw [congrFun hz' a]; simp) (V c main_arg9)

/-- Window 9 stages its whole array at every grid point. -/
theorem blk9 (c : Dev nD) (t : Fin cfg0.N) : (iblk0 V c 9 t : Vec Ideal S1x1 .f32) = V c main_v30 := by
  have hz' : (fun a => win0_9.index t a * main_v30.ty.shape.size a) = fun _ => 0 := funext fun a => by
    have h : win0_9.index t a = 0 := by
      rcases fin_N0 t with rfl | rfl | rfl | rfl | rfl | rfl | rfl | rfl | rfl | rfl | rfl | rfl | rfl | rfl | rfl | rfl <;>
        fin_cases a <;> decide
    rw [h, Nat.zero_mul]
  exact Memref.read_access_unit_zero (Elt Ideal) main_v30 hz' (fun a => by rw [congrFun hz' a]; simp) (V c main_v30)

/-- Point `t`'s image block: images `512 t` to `512 t + 511`. -/
theorem blk0 (c : Dev nD) (t : Fin cfg0.N) (n : Fin 512) (a b : Fin 28) (h : 512 * t.val + n.val < 8192) :
    (iblk0 V c 0 t : Vec Ideal S512x28x28 .f32) (ix3 n a b) = (V c main_v0 : Vec Ideal S8192x28x28 .f32) (ix3 ⟨512 * t.val + n.val, h⟩ a b) := by
  have hi : win0_0.index t 0 = t.val ∧ win0_0.index t 1 = 0 ∧ win0_0.index t 2 = 0 := by
    rcases fin_N0 t with rfl | rfl | rfl | rfl | rfl | rfl | rfl | rfl | rfl | rfl | rfl | rfl | rfl | rfl | rfl | rfl <;> decide
  unfold iblk0
  rw [View.read_apply]
  show V c main_v0 _ = V c main_v0 _
  congr 1
  funext x
  apply Fin.ext
  match x with
  | ⟨0, _⟩ => show win0_0.index t 0 * 512 + 1 * n.val = 512 * t.val + n.val; rw [hi.1]; omega
  | ⟨1, _⟩ => show win0_0.index t 1 * 28 + 1 * a.val = a.val; rw [hi.2.1]; omega
  | ⟨2, _⟩ => show win0_0.index t 2 * 28 + 1 * b.val = b.val; rw [hi.2.2]; omega

/-- Point `t`'s label block: row `t` of the labels. -/
theorem blk1 (c : Dev nD) (t : Fin cfg0.N) (n : Fin 512) (h : t.val < 16) :
    (iblk0 V c 1 t : Vec Ideal S1x1x512 .i32) (ix3 0 0 n) = (V c main_v1 : Vec Ideal S16x1x512 .i32) (ix3 ⟨t.val, h⟩ 0 n) := by
  have hi : win0_1.index t 0 = t.val ∧ win0_1.index t 1 = 0 ∧ win0_1.index t 2 = 0 := by
    rcases fin_N0 t with rfl | rfl | rfl | rfl | rfl | rfl | rfl | rfl | rfl | rfl | rfl | rfl | rfl | rfl | rfl | rfl <;> decide
  unfold iblk0
  rw [View.read_apply]
  show V c main_v1 _ = V c main_v1 _
  congr 1
  funext x
  apply Fin.ext
  match x with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 512 + 1 * n.val = n.val; rw [hi.2.2]; omega

/-- The one write-back of result window 10, at the last point. -/
theorem flushed10 (c : Dev nD) (t : Fin cfg0.N) (hf : (cfg0.win 10).flush t = true) :
    (dat0 V c).flushed 10 t = ((cfg0.win 10).blk t).view.read (Elt Ideal) ((last V c).1 : Vec Ideal S256x800 .f32) := by
  have hN : cfg0.N = 16 := N_0
  have h3 : t.val = 15 := by have := (flush0_10 t).mp hf; have := t.isLt; omega
  obtain rfl : t = t0_15 := Fin.ext h3
  show (cfg0.win 10).cut (grid0.coords t0_15) ((dat0 V c).after 10 t0_15) = _
  rw [after0_10]
  have hz' : (fun a => win0_10.index t0_15 a * main_v31_0.ty.shape.size a) = fun _ => 0 := funext fun a => by fin_cases a <;> decide
  exact (Memref.read_access_unit_zero (Elt Ideal) main_v31_0 hz' (fun a => by rw [congrFun hz' a]; simp) (last V c).1).symm

/-- Result window 10's array ends holding what the last point leaves. -/
theorem final10 (c : Dev nD) : (dat0 V c).arrAt 10 cfg0.N = ((last V c).1 : Vec Ideal S256x800 .f32) :=
  (dat0 V c).arrAt_eq_of_cover 10 ((last V c).1 : Vec Ideal S256x800 .f32) (flushed10 V c) fun i =>
    ⟨t0_15, (flush0_10 t0_15).mpr rfl, by
      show i ∈ ((View.whole main_v31_0).slice (win0_10.rect t0_15)).set
      rw [View.set_slice_whole, Rect.mem_set_unit]
      intro a
      have h0 : (i 0 : Nat) < 256 := (i 0).isLt
      have h1 : (i 1 : Nat) < 800 := (i 1).isLt
      match a with
      | ⟨0, _⟩ =>
        show win0_10.index t0_15 0 * win0_10.size 0 ≤ (i 0 : Nat) ∧ (i 0 : Nat) < win0_10.index t0_15 0 * win0_10.size 0 + win0_10.xsize (grid0.coords t0_15) 0
        rw [show win0_10.index t0_15 0 * win0_10.size 0 = 0 from by decide +kernel, show win0_10.xsize (grid0.coords t0_15) 0 = 256 from by decide +kernel]; omega
      | ⟨1, _⟩ =>
        show win0_10.index t0_15 1 * win0_10.size 1 ≤ (i 1 : Nat) ∧ (i 1 : Nat) < win0_10.index t0_15 1 * win0_10.size 1 + win0_10.xsize (grid0.coords t0_15) 1
        rw [show win0_10.index t0_15 1 * win0_10.size 1 = 0 from by decide +kernel, show win0_10.xsize (grid0.coords t0_15) 1 = 800 from by decide +kernel]; omega⟩

/-- The one write-back of result window 11, at the last point. -/
theorem flushed11 (c : Dev nD) (t : Fin cfg0.N) (hf : (cfg0.win 11).flush t = true) :
    (dat0 V c).flushed 11 t = ((cfg0.win 11).blk t).view.read (Elt Ideal) ((last V c).2 : Vec Ideal S1x1 .f32) := by
  have hN : cfg0.N = 16 := N_0
  have h3 : t.val = 15 := by have := (flush0_11 t).mp hf; have := t.isLt; omega
  obtain rfl : t = t0_15 := Fin.ext h3
  show (cfg0.win 11).cut (grid0.coords t0_15) ((dat0 V c).after 11 t0_15) = _
  rw [after0_11]
  have hz' : (fun a => win0_11.index t0_15 a * main_v31_1.ty.shape.size a) = fun _ => 0 := funext fun a => by fin_cases a <;> decide
  exact (Memref.read_access_unit_zero (Elt Ideal) main_v31_1 hz' (fun a => by rw [congrFun hz' a]; simp) (last V c).2).symm

/-- Result window 11's array ends holding what the last point leaves. -/
theorem final11 (c : Dev nD) : (dat0 V c).arrAt 11 cfg0.N = ((last V c).2 : Vec Ideal S1x1 .f32) :=
  (dat0 V c).arrAt_eq_of_cover 11 ((last V c).2 : Vec Ideal S1x1 .f32) (flushed11 V c) fun i =>
    ⟨t0_15, (flush0_11 t0_15).mpr rfl, by
      show i ∈ ((View.whole main_v31_1).slice (win0_11.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_11.index t0_15 0 * win0_11.size 0 ≤ (i 0 : Nat) ∧ (i 0 : Nat) < win0_11.index t0_15 0 * win0_11.size 0 + win0_11.xsize (grid0.coords t0_15) 0
        rw [show win0_11.index t0_15 0 * win0_11.size 0 = 0 from by decide +kernel, show win0_11.xsize (grid0.coords t0_15) 0 = 1 from by decide +kernel]; omega
      | ⟨1, _⟩ =>
        show win0_11.index t0_15 1 * win0_11.size 1 ≤ (i 1 : Nat) ∧ (i 1 : Nat) < win0_11.index t0_15 1 * win0_11.size 1 + win0_11.xsize (grid0.coords t0_15) 1
        rw [show win0_11.index t0_15 1 * win0_11.size 1 = 0 from by decide +kernel, show win0_11.xsize (grid0.coords t0_15) 1 = 1 from by decide +kernel]; omega⟩

end Cert.Proof.Region0
-- ==== Proof.Arrays1.lean ====
module

public import proofs.«01_k».proof.Proof.Region0

/-! The second kernel call: it reads its arrays whole and leaves its one value in the result. -/

@[expose] public section
set_option maxRecDepth 16384
noncomputable section
namespace Cert.Proof.Region1
open Idealize.ShloMosaic Idealize.ShloMosaic.TcCoe Idealize.SL.Sem
open Idealize.ShloMosaic.Pipeline (Dat)
open Cert.KernelIdeal Cert.KernelIdeal.Gen
open Cert.Proof.Region0 (hz2 hz3)

variable (V : (c : Dev nD) → (b : Ref sig .tc) → Buf (Elt Ideal) ((c : Thread nD τ).loc b))

/-- Window 0 stages its whole array. -/
theorem blk0 (c : Dev nD) (t : Fin cfg1.N) : (iblk1 V c 0 t : Vec Ideal S256x800 .f32) = V c main_v31_0 := by
  have hz' : (fun a => win1_0.index t a * main_v31_0.ty.shape.size a) = fun _ => 0 := funext fun a => by
    show 0 * _ = 0
    rw [Nat.zero_mul]
  exact Memref.read_access_unit_zero (Elt Ideal) main_v31_0 hz' (fun a => by rw [congrFun hz' a]; simp) (V c main_v31_0)

/-- Window 1 stages its whole array. -/
theorem blk1 (c : Dev nD) (t : Fin cfg1.N) : (iblk1 V c 1 t : Vec Ideal S1x1 .f32) = V c main_v31_1 := by
  have hz' : (fun a => win1_1.index t a * main_v31_1.ty.shape.size a) = fun _ => 0 := funext fun a => by
    show 0 * _ = 0
    rw [Nat.zero_mul]
  exact Memref.read_access_unit_zero (Elt Ideal) main_v31_1 hz' (fun a => by rw [congrFun hz' a]; simp) (V c main_v31_1)

/-- Window 2 stages its whole array. -/
theorem blk2 (c : Dev nD) (t : Fin cfg1.N) : (iblk1 V c 2 t : Vec Ideal S1x1x256 .i32) = V c main_v2 := by
  have hz' : (fun a => win1_2.index t a * main_v2.ty.shape.size a) = fun _ => 0 := funext fun a => by
    show 0 * _ = 0
    rw [Nat.zero_mul]
  exact Memref.read_access_unit_zero (Elt Ideal) main_v2 hz' (fun a => by rw [congrFun hz' a]; simp) (V c main_v2)

/-- Window 3 stages its whole array. -/
theorem blk3 (c : Dev nD) (t : Fin cfg1.N) : (iblk1 V c 3 t : Vec Ideal S800x128 .f32) = V c main_arg11 := by
  have hz' : (fun a => win1_3.index t a * main_arg11.ty.shape.size a) = fun _ => 0 := funext fun a => by
    show 0 * _ = 0
    rw [Nat.zero_mul]
  exact Memref.read_access_unit_zero (Elt Ideal) main_arg11 hz' (fun a => by rw [congrFun hz' a]; simp) (V c main_arg11)

/-- Window 4 stages its whole array. -/
theorem blk4 (c : Dev nD) (t : Fin cfg1.N) : (iblk1 V c 4 t : Vec Ideal S1x128 .f32) = V c main_v32 := by
  have hz' : (fun a => win1_4.index t a * main_v32.ty.shape.size a) = fun _ => 0 := funext fun a => by
    show 0 * _ = 0
    rw [Nat.zero_mul]
  exact Memref.read_access_unit_zero (Elt Ideal) main_v32 hz' (fun a => by rw [congrFun hz' a]; simp) (V c main_v32)

/-- Window 5 stages its whole array. -/
theorem blk5 (c : Dev nD) (t : Fin cfg1.N) : (iblk1 V c 5 t : Vec Ideal S128x1 .f32) = V c main_arg13 := by
  have hz' : (fun a => win1_5.index t a * main_arg13.ty.shape.size a) = fun _ => 0 := funext fun a => by
    show 0 * _ = 0
    rw [Nat.zero_mul]
  exact Memref.read_access_unit_zero (Elt Ideal) main_arg13 hz' (fun a => by rw [congrFun hz' a]; simp) (V c main_arg13)

/-- Window 6 stages its whole array. -/
theorem blk6 (c : Dev nD) (t : Fin cfg1.N) : (iblk1 V c 6 t : Vec Ideal S1x1 .f32) = V c main_v33 := by
  have hz' : (fun a => win1_6.index t a * main_v33.ty.shape.size a) = fun _ => 0 := funext fun a => by
    show 0 * _ = 0
    rw [Nat.zero_mul]
  exact Memref.read_access_unit_zero (Elt Ideal) main_v33 hz' (fun a => by rw [congrFun hz' a]; simp) (V c main_v33)

/-- Window 7 stages its whole array. -/
theorem blk7 (c : Dev nD) (t : Fin cfg1.N) : (iblk1 V c 7 t : Vec Ideal S800x128 .f32) = V c main_arg15 := by
  have hz' : (fun a => win1_7.index t a * main_arg15.ty.shape.size a) = fun _ => 0 := funext fun a => by
    show 0 * _ = 0
    rw [Nat.zero_mul]
  exact Memref.read_access_unit_zero (Elt Ideal) main_arg15 hz' (fun a => by rw [congrFun hz' a]; simp) (V c main_arg15)

/-- Window 8 stages its whole array. -/
theorem blk8 (c : Dev nD) (t : Fin cfg1.N) : (iblk1 V c 8 t : Vec Ideal S1x128 .f32) = V c main_v34 := by
  have hz' : (fun a => win1_8.index t a * main_v34.ty.shape.size a) = fun _ => 0 := funext fun a => by
    show 0 * _ = 0
    rw [Nat.zero_mul]
  exact Memref.read_access_unit_zero (Elt Ideal) main_v34 hz' (fun a => by rw [congrFun hz' a]; simp) (V c main_v34)

/-- Window 9 stages its whole array. -/
theorem blk9 (c : Dev nD) (t : Fin cfg1.N) : (iblk1 V c 9 t : Vec Ideal S128x1 .f32) = V c main_arg17 := by
  have hz' : (fun a => win1_9.index t a * main_arg17.ty.shape.size a) = fun _ => 0 := funext fun a => by
    show 0 * _ = 0
    rw [Nat.zero_mul]
  exact Memref.read_access_unit_zero (Elt Ideal) main_arg17 hz' (fun a => by rw [congrFun hz' a]; simp) (V c main_arg17)

/-- Window 10 stages its whole array. -/
theorem blk10 (c : Dev nD) (t : Fin cfg1.N) : (iblk1 V c 10 t : Vec Ideal S1x1 .f32) = V c main_v35 := by
  have hz' : (fun a => win1_10.index t a * main_v35.ty.shape.size a) = fun _ => 0 := funext fun a => by
    show 0 * _ = 0
    rw [Nat.zero_mul]
  exact Memref.read_access_unit_zero (Elt Ideal) main_v35 hz' (fun a => by rw [congrFun hz' a]; simp) (V c main_v35)

/-- Window 11 stages its whole array. -/
theorem blk11 (c : Dev nD) (t : Fin cfg1.N) : (iblk1 V c 11 t : Vec Ideal S800x256 .f32) = V c main_arg19 := by
  have hz' : (fun a => win1_11.index t a * main_arg19.ty.shape.size a) = fun _ => 0 := funext fun a => by
    show 0 * _ = 0
    rw [Nat.zero_mul]
  exact Memref.read_access_unit_zero (Elt Ideal) main_arg19 hz' (fun a => by rw [congrFun hz' a]; simp) (V c main_arg19)

/-- Window 12 stages its whole array. -/
theorem blk12 (c : Dev nD) (t : Fin cfg1.N) : (iblk1 V c 12 t : Vec Ideal S1x256 .f32) = V c main_v36 := by
  have hz' : (fun a => win1_12.index t a * main_v36.ty.shape.size a) = fun _ => 0 := funext fun a => by
    show 0 * _ = 0
    rw [Nat.zero_mul]
  exact Memref.read_access_unit_zero (Elt Ideal) main_v36 hz' (fun a => by rw [congrFun hz' a]; simp) (V c main_v36)

/-- Window 13 stages its whole array. -/
theorem blk13 (c : Dev nD) (t : Fin cfg1.N) : (iblk1 V c 13 t : Vec Ideal S256x1 .f32) = V c main_arg21 := by
  have hz' : (fun a => win1_13.index t a * main_arg21.ty.shape.size a) = fun _ => 0 := funext fun a => by
    show 0 * _ = 0
    rw [Nat.zero_mul]
  exact Memref.read_access_unit_zero (Elt Ideal) main_arg21 hz' (fun a => by rw [congrFun hz' a]; simp) (V c main_arg21)

/-- Window 14 stages its whole array. -/
theorem blk14 (c : Dev nD) (t : Fin cfg1.N) : (iblk1 V c 14 t : Vec Ideal S1x1 .f32) = V c main_v37 := by
  have hz' : (fun a => win1_14.index t a * main_v37.ty.shape.size a) = fun _ => 0 := funext fun a => by
    show 0 * _ = 0
    rw [Nat.zero_mul]
  exact Memref.read_access_unit_zero (Elt Ideal) main_v37 hz' (fun a => by rw [congrFun hz' a]; simp) (V c main_v37)

/-- The second call's value over its arrays. -/
def result (c : Dev nD) : Vec Ideal S1x1 .f32 :=
  k1_pay2 (k1_pay1 (V c main_v31_0) (V c main_v31_1) (V c main_arg11) (V c main_v32) (V c main_arg13) (V c main_v33) (V c main_v2)) (V c main_arg15) (V c main_v34) (V c main_arg17) (V c main_v35) (V c main_arg19) (V c main_v36) (V c main_arg21) (V c main_v37)

/-- What the one point stores. -/
theorem out_eq (c : Dev nD) (t : Fin cfg1.N) : (dat1 V c).after 15 t = (result V c : Vec Ideal S1x1 .f32) := by
  rw [after1_15]
  unfold out1_15 result
  rw [View.canon_unit_zero hz2]
  simp only [View.ld_unit_zero (S := S256x800) hz2, View.ld_unit_zero (S := S1x1) hz2, View.ld_unit_zero (S := S1x1x256) hz3, View.ld_unit_zero (S := S800x128) hz2, View.ld_unit_zero (S := S1x128) hz2, View.ld_unit_zero (S := S128x1) hz2, View.ld_unit_zero (S := S800x256) hz2, View.ld_unit_zero (S := S1x256) hz2, View.ld_unit_zero (S := S256x1) hz2]
  rw [blk0, blk1, blk2, blk3, blk4, blk5, blk6, blk7, blk8, blk9, blk10, blk11, blk12, blk13, blk14]

/-- The one write-back. -/
theorem flushed15 (c : Dev nD) (t : Fin cfg1.N) (hf : (cfg1.win 15).flush t = true) :
    (dat1 V c).flushed 15 t = ((cfg1.win 15).blk t).view.read (Elt Ideal) (result V c : Vec Ideal S1x1 .f32) := by
  show (cfg1.win 15).cut (grid1.coords t) ((dat1 V c).after 15 t) = _
  rw [out_eq]
  have hz' : (fun a => win1_15.index t a * main_v38.ty.shape.size a) = fun _ => 0 := funext fun a => by
    show 0 * _ = 0
    rw [Nat.zero_mul]
  exact (Memref.read_access_unit_zero (Elt Ideal) main_v38 hz' (fun a => by rw [congrFun hz' a]; simp) (result V c)).symm

/-- The result array ends holding the second call's value. -/
theorem final15 (c : Dev nD) : (dat1 V c).arrAt 15 cfg1.N = (result V c : Vec Ideal S1x1 .f32) :=
  (dat1 V c).arrAt_eq_of_cover 15 (result V c : Vec Ideal S1x1 .f32) (flushed15 V c) fun i =>
    ⟨t1_0, flush1_15 t1_0, by
      show i ∈ ((View.whole main_v38).slice (win1_15.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_15.index t1_0 0 * win1_15.size 0 ≤ (i 0 : Nat) ∧ (i 0 : Nat) < win1_15.index t1_0 0 * win1_15.size 0 + win1_15.xsize (grid1.coords t1_0) 0
        rw [show win1_15.index t1_0 0 * win1_15.size 0 = 0 from by decide +kernel, show win1_15.xsize (grid1.coords t1_0) 0 = 1 from by decide +kernel]; omega
      | ⟨1, _⟩ =>
        show win1_15.index t1_0 1 * win1_15.size 1 ≤ (i 1 : Nat) ∧ (i 1 : Nat) < win1_15.index t1_0 1 * win1_15.size 1 + win1_15.xsize (grid1.coords t1_0) 1
        rw [show win1_15.index t1_0 1 * win1_15.size 1 = 0 from by decide +kernel, show win1_15.xsize (grid1.coords t1_0) 1 = 1 from by decide +kernel]; omega⟩

end Cert.Proof.Region1
-- ==== Proof.KRun.lean ====
module

public import proofs.«01_k».proof.Proof.Arrays0
public import proofs.«01_k».proof.Proof.Arrays1

/-! The run of the idealized kernel, with its result array and its arguments read at the end. -/

@[expose] public section
set_option maxRecDepth 16384
noncomputable section
namespace Cert.Proof.KRun
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result buffer after the second call holds that call's value over the contents at its entry. -/
theorem W4_result (c : Dev nD) : W4 m ρ c (Proc.devRef .tc main_v38) = (Region1.result (V3 m ρ) c : Vec Ideal S1x1 .f32) :=
  (W4_arr m ρ c 15).trans (Region1.final15 (V3 m ρ) c)

/-- The weighted sums, as the second call finds them. -/
theorem W2_sums (c : Dev nD) : W2 m ρ c (Proc.devRef .tc main_v31_0) = ((Region0.last (V1 m ρ) c).1 : Vec Ideal S256x800 .f32) :=
  (W2_arr m ρ c 10).trans (Region0.final10 (V1 m ρ) c)

/-- The sum of exponentials, as the second call finds it. -/
theorem W2_total (c : Dev nD) : W2 m ρ c (Proc.devRef .tc main_v31_1) = ((Region0.last (V1 m ρ) c).2 : Vec Ideal S1x1 .f32) :=
  (W2_arr m ρ c 11).trans (Region0.final11 (V1 m ρ) c)

set_option backward.isDefEq.respectTransparency.types false in
/-- Every run ends with the result buffer at the second call's value and every argument as launched. -/
theorem run : θ_run defs (onTc (τ := τ) (main (F := Ideal))) ⟨m, fun _ => 0, ρ⟩ (fun r => ∀ c : Dev nD,
      r.2.mem ((c : Thread nD τ).loc main_v38) = (Region1.result (V3 m ρ) c : Vec Ideal S1x1 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v38 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c)⟩)

end Cert.Proof.KRun
-- ==== Proof.Weights.lean ====
module

public import proofs.«01_k».proof.Proof.Block
public import proofs.«01_k».proof.Proof.Tables
public import proofs.«01_k».proof.Proof.KRun

/-! What the host lines before the first kernel call hand to it, entry by entry. -/

@[expose] public section
set_option maxRecDepth 16384
noncomputable section
namespace Cert.Proof.Weights
open Idealize.ShloMosaic Idealize.ShloMosaic.TcCoe
open Cert.KernelIdeal Cert.KernelIdeal.Gen
open Cert.Proof.Stages (ix2_eq ix3_eq)

variable (m : (ℓ : Loc nD τ sig) → Buf (Elt Ideal) ℓ) (ρ : Dev nD → PrngReg)

/-- The first kernel spread over rows and columns by the first table. -/
def wide1 (a : FVec Ideal S3x3x1x16 .f32) : FVec Ideal S3x28x26x16 .f32 :=
  transpose S3x28x26x16 [0, 2, 3, 1]
    (Host.dotGeneral (F := Ideal)  dot_S3x3x16_S3x28x26_S3x16x28x26_1_0_02_12_n_n none (shapeCast S3x3x16 a shapeCasts_S3x3x1x16_S3x3x16)
      (fun i => FloatOps.ofBits .f32 (lit0 (S3x28x26.rowMajor i)))) transposes_S3x16x28x26_S3x28x26x16_0_2_3_1

/-- The second kernel spread over rows and columns by the second table. -/
def wide2 (a : FVec Ideal S3x3x16x32 .f32) : FVec Ideal S3x13x16x11x32 .f32 :=
  transpose S3x13x16x11x32 [0, 3, 1, 4, 2]
    (Host.dotGeneral (F := Ideal)  dot_S3x3x16x32_S3x13x11_S3x16x32x13x11_1_0_023_12_n_n none a
      (fun i => FloatOps.ofBits .f32 (lit1 (S3x13x11.rowMajor i)))) transposes_S3x16x32x13x11_S3x13x16x11x32_0_3_1_4_2

/-- The first band matrix, from the first kernel. -/
def band1 (a : FVec Ideal S3x3x1x16 .f32) : FVec Ideal S84x416 .bf16 :=
  truncf .bf16 (shapeCast S84x416 (concatenate S3x28x26x16 2
    [⟨S3x28x13x16, Host.slice S3x28x13x16 ![0, 0, 0, 0] ![1, 1, 2, 1] (wide1 a) slicesBy_S3x28x26x16_S3x28x13x16_0s1_0s1_0s2_0s1⟩,
     ⟨S3x28x13x16, Host.slice S3x28x13x16 ![0, 0, 1, 0] ![1, 1, 2, 1] (wide1 a) slicesBy_S3x28x26x16_S3x28x13x16_0s1_0s1_1s2_0s1⟩]
    concatenates_S3x28x13x16_S3x28x13x16_S3x28x26x16_d2) shapeCasts_S3x28x26x16_S84x416) bitsLt_bf16_f32

/-- The even columns, the odd columns and the last column joined and laid out as a matrix. -/
def join2 (x y : FVec Ideal S3x13x16x5x32 .f32) (z : FVec Ideal S3x13x16x1x32 .f32) : FVec Ideal S624x352 .bf16 :=
  truncf .bf16 (shapeCast S624x352 (concatenate S3x13x16x11x32 3 [⟨S3x13x16x5x32, x⟩, ⟨S3x13x16x5x32, y⟩, ⟨S3x13x16x1x32, z⟩]
    concatenates_S3x13x16x5x32_S3x13x16x5x32_S3x13x16x1x32_S3x13x16x11x32_d3) shapeCasts_S3x13x16x11x32_S624x352) bitsLt_bf16_f32

/-- The second band matrix, from the second kernel. -/
def band2 (a : FVec Ideal S3x3x16x32 .f32) : FVec Ideal S624x352 .bf16 :=
  join2 (Host.slice S3x13x16x5x32 ![0, 0, 0, 0, 0] ![1, 1, 1, 2, 1] (wide2 a) slicesBy_S3x13x16x11x32_S3x13x16x5x32_0s1_0s1_0s1_0s2_0s1)
    (Host.slice S3x13x16x5x32 ![0, 0, 0, 1, 0] ![1, 1, 1, 2, 1] (wide2 a) slicesBy_S3x13x16x11x32_S3x13x16x5x32_0s1_0s1_0s1_1s2_0s1)
    (extractStridedSlice S3x13x16x1x32 ![0, 0, 0, 10, 0] (wide2 a) slices_S3x13x16x11x32_S3x13x16x1x32_0_0_0_10_0)

theorem V1_v17 (c : Dev nD) : V1 m ρ c main_v17 = band1 (m ((c : Thread nD τ).loc main_arg3)) := by
  unfold V1 W1 W0
  after_results
  rfl

theorem V1_v18 (c : Dev nD) : V1 m ρ c main_v18 = band2 (m ((c : Thread nD τ).loc main_arg5)) := by
  unfold V1 W1 W0
  after_results
  dsimp only [Matrix.cons_val_zero, Matrix.cons_val_one, Matrix.cons_val]
  show join2 _ _ _ = join2 _ _ _
  congr 1

theorem V1_v0 (c : Dev nD) : V1 m ρ c main_v0 = (shapeCast S8192x28x28 (m ((c : Thread nD τ).loc main_arg0) : Vec Ideal S8192x28x28x1 .f32) shapeCasts_S8192x28x28x1_S8192x28x28 : Vec Ideal S8192x28x28 .f32) := by
  unfold V1 W1 W0
  after_results
  rfl

theorem V1_v1 (c : Dev nD) : V1 m ρ c main_v1 = (shapeCast S16x1x512 (m ((c : Thread nD τ).loc main_arg1) : Vec Ideal S8192 .i32) shapeCasts_S8192_S16x1x512 : Vec Ideal S16x1x512 .i32) := by
  unfold V1 W1 W0
  after_results
  rfl

theorem V1_v2 (c : Dev nD) : V1 m ρ c main_v2 = (shapeCast S1x1x256 (m ((c : Thread nD τ).loc main_arg2) : Vec Ideal S256 .i32) shapeCasts_S256_S1x1x256 : Vec Ideal S1x1x256 .i32) := by
  unfold V1 W1 W0
  after_results
  rfl

theorem V1_v29 (c : Dev nD) : V1 m ρ c main_v29 = (shapeCast S1x128 (m ((c : Thread nD τ).loc main_arg8) : Vec Ideal S128 .f32) shapeCasts_S128_S1x128 : Vec Ideal S1x128 .f32) := by
  unfold V1 W1 W0
  after_results
  rfl

theorem V1_v30 (c : Dev nD) : V1 m ρ c main_v30 = (shapeCast S1x1 (m ((c : Thread nD τ).loc main_arg10) : Vec Ideal S1 .f32) shapeCasts_S1_S1x1 : Vec Ideal S1x1 .f32) := by
  unfold V1 W1 W0
  after_results
  rfl

/-- The first bias repeated along a row. -/
def row1 (a : FVec Ideal S16 .f32) : FVec Ideal S1x208 .bf16 :=
  truncf .bf16 (shapeCast S1x208 (shapeCast S208 (broadcastInDim S13x16 ![0, 1] bcast_S1x16_S13x16_0_1 (shapeCast S1x16 a shapeCasts_S16_S1x16)) shapeCasts_S13x16_S208) shapeCasts_S208_S1x208) bitsLt_bf16_f32

/-- The second bias repeated along a row. -/
def row2 (a : FVec Ideal S32 .f32) : FVec Ideal S1x160 .bf16 :=
  truncf .bf16 (shapeCast S1x160 (shapeCast S160 (broadcastInDim S5x32 ![0, 1] bcast_S1x32_S5x32_0_1 (shapeCast S1x32 a shapeCasts_S32_S1x32)) shapeCasts_S5x32_S160) shapeCasts_S160_S1x160) bitsLt_bf16_f32

theorem V1_v23 (c : Dev nD) : V1 m ρ c main_v23 = row1 (m ((c : Thread nD τ).loc main_arg4)) := by
  unfold V1 W1 W0
  after_results
  rfl

theorem V1_v28 (c : Dev nD) : V1 m ρ c main_v28 = row2 (m ((c : Thread nD τ).loc main_arg6)) := by
  unfold V1 W1 W0
  after_results
  rfl

theorem row1_apply (a : FVec Ideal S16 .f32) (j : Fin 13) (o : Fin 16) : row1 a (ix2 0 ⟨16 * j.val + o.val, by omega⟩) = a (ix1 o) := by
  unfold row1
  pointwise []

theorem row2_apply (a : FVec Ideal S32 .f32) (j : Fin 5) (o : Fin 32) : row2 a (ix2 0 ⟨32 * j.val + o.val, by omega⟩) = a (ix1 o) := by
  unfold row2
  pointwise []

theorem wide1_apply (a : FVec Ideal S3x3x1x16 .f32) (r : Fin 3) (c : Fin 28) (q : Fin 26) (o : Fin 16) :
    wide1 a (ix4 r c q o) = ∑ d : Fin 3, a (ix4 r d 0 o) * (if c.val = q.val + d.val then 1 else 0) := by
  have h : wide1 a (ix4 r c q o) = ∑ d : Fin 3, a (ix4 r d 0 o) * FloatOps.ofBits .f32 (lit0 (S3x28x26.rowMajor (ix3 d c q))) := by
    unfold wide1
    pointwise []
  rw [h]
  exact Finset.sum_congr rfl fun d _ => congrArg (a (ix4 r d 0 o) * ·) (Tables.table0_at d c q)

theorem wide2_apply (a : FVec Ideal S3x3x16x32 .f32) (r : Fin 3) (c : Fin 13) (ch : Fin 16) (q : Fin 11) (o : Fin 32) :
    wide2 a (ix5 r c ch q o) = ∑ d : Fin 3, a (ix4 r d ch o) * (if c.val = q.val + d.val then 1 else 0) := by
  have h : wide2 a (ix5 r c ch q o) = ∑ d : Fin 3, a (ix4 r d ch o) * FloatOps.ofBits .f32 (lit1 (S3x13x11.rowMajor (ix3 d c q))) := by
    unfold wide2
    pointwise []
  rw [h]
  exact Finset.sum_congr rfl fun d _ => congrArg (a (ix4 r d ch o) * ·) (Tables.table1_at d c q)

theorem band1_apply (a : FVec Ideal S3x3x1x16 .f32) (r : Fin 3) (c : Fin 28) (h : Fin 2) (j : Fin 13) (o : Fin 16) :
    band1 a (ix2 ⟨28 * r.val + c.val, by omega⟩ ⟨208 * h.val + (16 * j.val + o.val), by omega⟩) = wide1 a (ix4 r c ⟨2 * j.val + h.val, by omega⟩ o) := by
  unfold band1
  generalize wide1 a = y
  pointwise []
  match h with
  | ⟨0, _⟩ =>
    dsimp only
    rw [dif_pos (by omega)]
    exact congrArg (fun q => y (ix4 r c q o)) (Fin.ext (by dsimp only; omega))
  | ⟨1, _⟩ =>
    dsimp only
    rw [dif_neg (by omega)]
    exact congrArg (fun q => y (ix4 r c q o)) (Fin.ext (by dsimp only; omega))

theorem band2_apply (a : FVec Ideal S3x3x16x32 .f32) (r : Fin 3) (c : Fin 13) (ch : Fin 16) (h : Fin 2) (j : Fin 5) (o : Fin 32) :
    band2 a (ix2 ⟨208 * r.val + (16 * c.val + ch.val), by omega⟩ ⟨160 * h.val + (32 * j.val + o.val), by omega⟩) = wide2 a (ix5 r c ch ⟨2 * j.val + h.val, by omega⟩ o) := by
  unfold band2 join2
  generalize wide2 a = y
  pointwise []
  match h with
  | ⟨0, _⟩ =>
    dsimp only
    rw [dif_pos (by omega)]
    exact congrArg (fun q => y (ix5 r c ch q o)) (Fin.ext (by dsimp only; omega))
  | ⟨1, _⟩ =>
    dsimp only
    rw [dif_neg (by omega), dif_pos (by omega)]
    exact congrArg (fun q => y (ix5 r c ch q o)) (Fin.ext (by dsimp only; omega))

theorem V3_v32 (c : Dev nD) : V3 m ρ c main_v32 = (shapeCast S1x128 (m ((c : Thread nD τ).loc main_arg12) : Vec Ideal S128 .f32) shapeCasts_S128_S1x128 : Vec Ideal S1x128 .f32) := by
  have h : V3 m ρ c main_v32 = (shapeCast S1x128 (W2 m ρ c (Proc.devRef .tc main_arg12) : Vec Ideal S128 .f32) shapeCasts_S128_S1x128 : Vec Ideal S1x128 .f32) := by
    unfold V3 W3
    after_results
    rfl
  rw [h, W2_args m ρ c main_arg12 (by decide)]

theorem V3_v33 (c : Dev nD) : V3 m ρ c main_v33 = (shapeCast S1x1 (m ((c : Thread nD τ).loc main_arg14) : Vec Ideal S1 .f32) shapeCasts_S1_S1x1 : Vec Ideal S1x1 .f32) := by
  have h : V3 m ρ c main_v33 = (shapeCast S1x1 (W2 m ρ c (Proc.devRef .tc main_arg14) : Vec Ideal S1 .f32) shapeCasts_S1_S1x1 : Vec Ideal S1x1 .f32) := by
    unfold V3 W3
    after_results
    rfl
  rw [h, W2_args m ρ c main_arg14 (by decide)]

theorem V3_v34 (c : Dev nD) : V3 m ρ c main_v34 = (shapeCast S1x128 (m ((c : Thread nD τ).loc main_arg16) : Vec Ideal S128 .f32) shapeCasts_S128_S1x128 : Vec Ideal S1x128 .f32) := by
  have h : V3 m ρ c main_v34 = (shapeCast S1x128 (W2 m ρ c (Proc.devRef .tc main_arg16) : Vec Ideal S128 .f32) shapeCasts_S128_S1x128 : Vec Ideal S1x128 .f32) := by
    unfold V3 W3
    after_results
    rfl
  rw [h, W2_args m ρ c main_arg16 (by decide)]

theorem V3_v35 (c : Dev nD) : V3 m ρ c main_v35 = (shapeCast S1x1 (m ((c : Thread nD τ).loc main_arg18) : Vec Ideal S1 .f32) shapeCasts_S1_S1x1 : Vec Ideal S1x1 .f32) := by
  have h : V3 m ρ c main_v35 = (shapeCast S1x1 (W2 m ρ c (Proc.devRef .tc main_arg18) : Vec Ideal S1 .f32) shapeCasts_S1_S1x1 : Vec Ideal S1x1 .f32) := by
    unfold V3 W3
    after_results
    rfl
  rw [h, W2_args m ρ c main_arg18 (by decide)]

theorem V3_v36 (c : Dev nD) : V3 m ρ c main_v36 = (shapeCast S1x256 (m ((c : Thread nD τ).loc main_arg20) : Vec Ideal S256 .f32) shapeCasts_S256_S1x256 : Vec Ideal S1x256 .f32) := by
  have h : V3 m ρ c main_v36 = (shapeCast S1x256 (W2 m ρ c (Proc.devRef .tc main_arg20) : Vec Ideal S256 .f32) shapeCasts_S256_S1x256 : Vec Ideal S1x256 .f32) := by
    unfold V3 W3
    after_results
    rfl
  rw [h, W2_args m ρ c main_arg20 (by decide)]

theorem V3_v37 (c : Dev nD) : V3 m ρ c main_v37 = (shapeCast S1x1 (m ((c : Thread nD τ).loc main_arg22) : Vec Ideal S1 .f32) shapeCasts_S1_S1x1 : Vec Ideal S1x1 .f32) := by
  have h : V3 m ρ c main_v37 = (shapeCast S1x1 (W2 m ρ c (Proc.devRef .tc main_arg22) : Vec Ideal S1 .f32) shapeCasts_S1_S1x1 : Vec Ideal S1x1 .f32) := by
    unfold V3 W3
    after_results
    rfl
  rw [h, W2_args m ρ c main_arg22 (by decide)]

theorem V3_v2 (c : Dev nD) : V3 m ρ c main_v2 = (shapeCast S1x1x256 (m ((c : Thread nD τ).loc main_arg2) : Vec Ideal S256 .i32) shapeCasts_S256_S1x1x256 : Vec Ideal S1x1x256 .i32) :=
  (W3_of m ρ c main_v2 (by decide)).trans ((W2_of m ρ c main_v2 (by decide)).trans (V1_v2 m ρ c))

theorem V3_sums (c : Dev nD) : V3 m ρ c main_v31_0 = ((Region0.last (V1 m ρ) c).1 : Vec Ideal S256x800 .f32) :=
  (W3_of m ρ c main_v31_0 (by decide)).trans (KRun.W2_sums m ρ c)

theorem V3_total (c : Dev nD) : V3 m ρ c main_v31_1 = ((Region0.last (V1 m ρ) c).2 : Vec Ideal S1x1 .f32) :=
  (W3_of m ρ c main_v31_1 (by decide)).trans (KRun.W2_total m ρ c)

end Cert.Proof.Weights
-- ==== Proof.KSums.lean ====
module

public import proofs.«01_k».proof.Proof.Weights

/-! The running sums of the first kernel call, as sums over all images. -/

@[expose] public section
set_option maxRecDepth 16384
set_option maxHeartbeats 1000000
noncomputable section
namespace Cert.Proof.KSums
open Idealize.ShloMosaic Idealize.ShloMosaic.TcCoe
open Cert.KernelIdeal Cert.KernelIdeal.Gen Cert.Proof.Maths Cert.Proof.Stages Cert.Proof.Block

/-- The hidden attention layer of a block: the hyperbolic tangent of a linear layer of the features. -/
theorem pay9_apply (v48 v49 : FVec Ideal S13x512x208 .bf16) (v56 : Vec Ideal S624x352 .bf16) (v73 : Vec Ideal S1x160 .bf16)
    (v92 : Vec Ideal S800x128 .f32) (v94 : Vec Ideal S1x128 .f32) (n : Fin 512) (q : Fin 128) :
    k0_pay9 v48 v49 v56 v73 v92 v94 (ix2 n q)
      = Ideal.tanh (∑ k : Fin 800, k0_pay8 v48 v49 v56 v73 (ix2 n k) * v92 (ix2 k q) + v94 (ix2 0 q)) := by
  unfold k0_pay9
  generalize k0_pay8 v48 v49 v56 v73 = y
  pointwise []

/-- The attention weight of one row, before it is normalised: the exponential of its score. -/
theorem pay1_apply (v98 : FVec Ideal S512x128 .f32) (v99 : Vec Ideal S128x1 .f32) (v101 : Vec Ideal S1x1 .f32) (n : Fin 512) :
    k0_pay1 v98 v99 v101 (ix2 n 0) = Ideal.exp (Ideal.logistic (∑ q : Fin 128, v98 (ix2 n q) * v99 (ix2 q 0) + v101 (ix2 0 0))) := by
  pointwise [k0_pay1]

/-- A comparison with a position, as a number: one where they agree. -/
theorem onehot (x y : BitVec 32) :
    (FloatOps.sitofp FTy.f32 (BitVec.setWidth 32 (IntOp.cmpi .eq x y)) : Ideal .f32) = if x = y then 1 else 0 := by
  by_cases h : x = y
  · subst h
    have e : BitVec.setWidth 32 (IntOp.cmpi .eq x x) = 1#32 := by simp [IntOp.cmpi]
    rw [e, if_pos rfl]
    show (((1#32).toInt : ℝ) : EReal) = 1
    simp
  · have hb : (x == y) = false := beq_eq_false_iff_ne.mpr h
    have e : BitVec.setWidth 32 (IntOp.cmpi .eq x y) = 0#32 := by
      show BitVec.setWidth 32 (BitVec.ofBool (x == y)) = 0#32
      rw [hb]
      rfl
    rw [e, if_neg h]
    show (((0#32).toInt : ℝ) : EReal) = 0
    simp

/-- One step of the weighted sums, at an entry. -/
theorem pay4_apply (v91 : FVec Ideal S512x800 .f32) (v98 : FVec Ideal S512x128 .f32) (v99 : Vec Ideal S128x1 .f32) (v101 : Vec Ideal S1x1 .f32)
    (v110 : Vec Ideal S1x1x512 .i32) (v123 : Vec Ideal S256x800 .f32) (i : Fin 256) (k : Fin 800) :
    k0_pay4 v91 v98 v99 v101 v110 v123 (ix2 i k) = v123 (ix2 i k)
      + ∑ x : Fin 512, (if v110 (ix3 0 0 x) = BitVec.ofNat 32 i.val then (1 : EReal) else 0) * (v91 (ix2 x k) * k0_pay1 v98 v99 v101 (ix2 x 0)) := by
  have h : k0_pay4 v91 v98 v99 v101 v110 v123 (ix2 i k) = v123 (ix2 i k)
      + ∑ x : Fin 512, FloatOps.sitofp FTy.f32 (BitVec.setWidth 32 (IntOp.cmpi .eq (v110 (ix3 0 0 x)) (BitVec.ofNat 32 i.val))) * (v91 (ix2 x k) * k0_pay1 v98 v99 v101 (ix2 x 0)) := by
    pointwise [k0_pay4]
  rw [h]
  simp only [onehot]

/-- One step of the sum of exponentials. -/
theorem pay5_apply (v98 : FVec Ideal S512x128 .f32) (v99 : Vec Ideal S128x1 .f32) (v101 : Vec Ideal S1x1 .f32) (v127 : Vec Ideal S1x1 .f32) :
    k0_pay5 v98 v99 v101 v127 (ix2 0 0) = v127 (ix2 0 0) + ∑ x : Fin 512, k0_pay1 v98 v99 v101 (ix2 x 0) := by
  pointwise [k0_pay5]

theorem pay2_apply (i : Fin 256) (k : Fin 800) : (k0_pay2 (F := Ideal)) (ix2 i k) = 0 := by
  pointwise [k0_pay2]

theorem pay3_apply : (k0_pay3 (F := Ideal)) (ix2 0 0) = 0 := by
  pointwise [k0_pay3]

variable (m : (ℓ : Loc nD τ sig) → Buf (Elt Ideal) ℓ) (ρ : Dev nD → PrngReg) (c : Dev nD)

/-- Image `n`. -/
def img (n : Fin 8192) (a b : Fin 28) : EReal := (m ((c : Thread nD τ).loc main_arg0) : FVec Ideal S8192x28x28x1 .f32) (ix4 n a b 0)
/-- The features of image `n`. -/
def gs (n : Fin 8192) (k : Fin 800) : EReal :=
  feat (img m c n) (fun r d o => (m ((c : Thread nD τ).loc main_arg3) : FVec Ideal S3x3x1x16 .f32) (ix4 r d 0 o))
    (fun o => (m ((c : Thread nD τ).loc main_arg4) : FVec Ideal S16 .f32) (ix1 o))
    (fun r d ch o => (m ((c : Thread nD τ).loc main_arg5) : FVec Ideal S3x3x16x32 .f32) (ix4 r d ch o))
    (fun o => (m ((c : Thread nD τ).loc main_arg6) : FVec Ideal S32 .f32) (ix1 o)) k
/-- The attention score of image `n`. -/
def sc (n : Fin 8192) : EReal :=
  score (gs m c n) (fun k q => (m ((c : Thread nD τ).loc main_arg7) : FVec Ideal S800x128 .f32) (ix2 k q))
    (fun q => (m ((c : Thread nD τ).loc main_arg8) : FVec Ideal S128 .f32) (ix1 q))
    (fun q => (m ((c : Thread nD τ).loc main_arg9) : FVec Ideal S128x1 .f32) (ix2 q 0))
    ((m ((c : Thread nD τ).loc main_arg10) : FVec Ideal S1 .f32) (ix1 0))
/-- The bag that image `n` is labelled with. -/
def lab (n : Fin 8192) : BitVec 32 := (m ((c : Thread nD τ).loc main_arg1) : IVec S8192 32) (ix1 n)

theorem band1_ok : Band1 (Weights.band1 (m ((c : Thread nD τ).loc main_arg3))) (fun r d o => (m ((c : Thread nD τ).loc main_arg3) : FVec Ideal S3x3x1x16 .f32) (ix4 r d 0 o)) :=
  fun r q h j o => (Weights.band1_apply _ r q h j o).trans (Weights.wide1_apply _ r q ⟨2 * j.val + h.val, by omega⟩ o)

theorem band2_ok : Band2 (Weights.band2 (m ((c : Thread nD τ).loc main_arg5))) (fun r d ch o => (m ((c : Thread nD τ).loc main_arg5) : FVec Ideal S3x3x16x32 .f32) (ix4 r d ch o)) :=
  fun r q ch h j o => (Weights.band2_apply _ r q ch h j o).trans (Weights.wide2_apply _ r q ch ⟨2 * j.val + h.val, by omega⟩ o)

/-- Row `n` of the features that grid point `t` computes. -/
theorem feats_at (t : Fin cfg0.N) (n : Fin 512) (k : Fin 800) (h : 512 * t.val + n.val < 8192) :
    k0_pay8 (k0_pay6 (iblk0 (V1 m ρ) c 0 t) (iblk0 (V1 m ρ) c 2 t) (iblk0 (V1 m ρ) c 3 t)) (k0_pay7 (F := Ideal)) (iblk0 (V1 m ρ) c 4 t) (iblk0 (V1 m ρ) c 5 t) (ix2 n k)
      = gs m c ⟨512 * t.val + n.val, h⟩ k := by
  rw [Region0.blk2, Region0.blk3, Region0.blk4, Region0.blk5, Weights.V1_v17, Weights.V1_v18, Weights.V1_v23, Weights.V1_v28]
  rw [feat_apply (K1 := fun r d o => (m ((c : Thread nD τ).loc main_arg3) : FVec Ideal S3x3x1x16 .f32) (ix4 r d 0 o))
    (B1 := fun o => (m ((c : Thread nD τ).loc main_arg4) : FVec Ideal S16 .f32) (ix1 o))
    (K2 := fun r d ch o => (m ((c : Thread nD τ).loc main_arg5) : FVec Ideal S3x3x16x32 .f32) (ix4 r d ch o))
    (B2 := fun o => (m ((c : Thread nD τ).loc main_arg6) : FVec Ideal S32 .f32) (ix1 o))
    (h31 := band1_ok m c) (h44 := Weights.row1_apply _) (h56 := band2_ok m c) (h73 := Weights.row2_apply _)]
  unfold gs
  congr 1
  funext a b
  rw [Region0.blk0 _ c t n a b h, Weights.V1_v0]
  unfold img
  pointwise []

end Cert.Proof.KSums
-- ==== Proof.Sums.lean ====
module

public import proofs.«01_k».proof.Proof.KSums

/-! The two result arrays of the first kernel call: over all 8192 images, the weighted features added into their bags, and
    the sum of the exponentials. -/

@[expose] public section
set_option maxRecDepth 16384
set_option maxHeartbeats 1000000
noncomputable section
namespace Cert.Proof.Sums
open Idealize.ShloMosaic Idealize.ShloMosaic.TcCoe
open Cert.KernelIdeal Cert.KernelIdeal.Gen Cert.Proof.Maths Cert.Proof.KSums Cert.Proof.Stages Cert.Proof.Block

variable (m : (ℓ : Loc nD τ sig) → Buf (Elt Ideal) ℓ) (ρ : Dev nD → PrngReg) (c : Dev nD)

/-- Row `n`'s unnormalised weight at grid point `t`. -/
theorem pay1_at (t : Fin cfg0.N) (n : Fin 512) (h : 512 * t.val + n.val < 8192) :
    k0_pay1 (k0_pay9 (k0_pay6 (iblk0 (V1 m ρ) c 0 t) (iblk0 (V1 m ρ) c 2 t) (iblk0 (V1 m ρ) c 3 t)) (k0_pay7 (F := Ideal)) (iblk0 (V1 m ρ) c 4 t) (iblk0 (V1 m ρ) c 5 t) (iblk0 (V1 m ρ) c 6 t) (iblk0 (V1 m ρ) c 7 t)) (iblk0 (V1 m ρ) c 8 t) (iblk0 (V1 m ρ) c 9 t) (ix2 n 0)
      = Ideal.exp (sc m c ⟨512 * t.val + n.val, h⟩) := by
  rw [pay1_apply]
  simp only [pay9_apply, feats_at m ρ c t n _ h]
  rw [Region0.blk6, Region0.blk7, Region0.blk8, Region0.blk9, Weights.V1_v29, Weights.V1_v30,
    show V1 m ρ c main_arg7 = m ((c : Thread nD τ).loc main_arg7) from W1_args m ρ c main_arg7 (by decide),
    show V1 m ρ c main_arg9 = m ((c : Thread nD τ).loc main_arg9) from W1_args m ρ c main_arg9 (by decide)]
  have e8 : ∀ q : Fin 128, (shapeCast S1x128 (m ((c : Thread nD τ).loc main_arg8) : Vec Ideal S128 .f32) shapeCasts_S128_S1x128 : Vec Ideal S1x128 .f32) (ix2 0 q) = (m ((c : Thread nD τ).loc main_arg8) : FVec Ideal S128 .f32) (ix1 q) := by
    intro q
    pointwise []
  have e10 : (shapeCast S1x1 (m ((c : Thread nD τ).loc main_arg10) : Vec Ideal S1 .f32) shapeCasts_S1_S1x1 : Vec Ideal S1x1 .f32) (ix2 0 0) = (m ((c : Thread nD τ).loc main_arg10) : FVec Ideal S1 .f32) (ix1 0) := by
    pointwise []
  rw [e10]
  simp only [e8]
  rfl

/-- Label `n` of grid point `t`. -/
theorem lab_at (t : Fin cfg0.N) (n : Fin 512) (h : 512 * t.val + n.val < 8192) :
    (iblk0 (V1 m ρ) c 1 t : Vec Ideal S1x1x512 .i32) (ix3 0 0 n) = lab m c ⟨512 * t.val + n.val, h⟩ := by
  have h16 : t.val < 16 := by have := t.isLt; have hN : cfg0.N = 16 := N_0; omega
  rw [Region0.blk1 _ c t n h16, Weights.V1_v1]
  unfold lab
  pointwise []
  exact congrArg (fun q => (m ((c : Thread nD τ).loc main_arg1) : IVec S8192 32) (ix1 q)) (Fin.ext (by dsimp only; omega))

/-- What grid point `t` adds to entry `(i, k)` of the weighted sums. -/
def add10 (i : Fin 256) (k : Fin 800) (t : ℕ) : EReal := if h : t < 16 then ∑ x : Fin 512,
  (if lab m c ⟨512 * t + x.val, by omega⟩ = BitVec.ofNat 32 i.val then (1 : EReal) else 0) * (gs m c ⟨512 * t + x.val, by omega⟩ k * Ideal.exp (sc m c ⟨512 * t + x.val, by omega⟩)) else 0

/-- What grid point `t` adds to the sum of exponentials. -/
def add11 (t : ℕ) : EReal := if h : t < 16 then ∑ x : Fin 512, Ideal.exp (sc m c ⟨512 * t + x.val, by omega⟩) else 0

theorem step10_at (t : Fin cfg0.N) (acc : Vec Ideal S256x800 .f32) (i : Fin 256) (k : Fin 800) :
    Region0.stepAt10 (V1 m ρ) c t acc (ix2 i k) = acc (ix2 i k) + add10 m c i k t.val := by
  have h16 : t.val < 16 := by have := t.isLt; have hN : cfg0.N = 16 := N_0; omega
  unfold Region0.stepAt10 Region0.step10 add10
  rw [pay4_apply, dif_pos h16]
  congr 1
  refine Finset.sum_congr rfl fun x _ => ?_
  rw [pay1_at m ρ c t x (by omega), feats_at m ρ c t x k (by omega), lab_at m ρ c t x (by omega)]

theorem step11_at (t : Fin cfg0.N) (acc : Vec Ideal S1x1 .f32) :
    Region0.stepAt11 (V1 m ρ) c t acc (ix2 0 0) = acc (ix2 0 0) + add11 m c t.val := by
  have h16 : t.val < 16 := by have := t.isLt; have hN : cfg0.N = 16 := N_0; omega
  unfold Region0.stepAt11 Region0.step11 add11
  rw [pay5_apply, dif_pos h16]
  congr 1
  exact Finset.sum_congr rfl fun x _ => pay1_at m ρ c t x (by omega)

/-- After point `n` both arrays hold what the points so far have added. -/
theorem outs_at (n : ℕ) (hn : n < cfg0.N) (i : Fin 256) (k : Fin 800) :
    (outsAt0 (V1 m ρ) c n hn).1 (ix2 i k) = ∑ t ∈ Finset.range (n + 1), add10 m c i k t
    ∧ (outsAt0 (V1 m ρ) c n hn).2 (ix2 0 0) = ∑ t ∈ Finset.range (n + 1), add11 m c t := by
  have hN : cfg0.N = 16 := N_0
  induction n with
  | zero =>
    have h := Region0.outs_A (V1 m ρ) c ⟨0, hn⟩ rfl
    rw [show outsAt0 (V1 m ρ) c 0 hn = _ from h]
    dsimp only
    rw [step10_at, step11_at, pay2_apply, pay3_apply, zero_add, zero_add]
    simp
  | succ n ih =>
    have hB : ¬(⟨n + 1, hn⟩ : Fin cfg0.N).val % 16 = 0 := by dsimp only; omega
    have h := Region0.outs_B (V1 m ρ) c ⟨n + 1, hn⟩ hB
    rw [show outsAt0 (V1 m ρ) c (n + 1) hn = _ from h]
    dsimp only
    rw [step10_at, step11_at]
    have hi := ih (Nat.lt_of_succ_lt hn)
    rw [Finset.sum_range_succ _ (n + 1), Finset.sum_range_succ _ (n + 1)]
    exact ⟨congrArg (· + _) hi.1, congrArg (· + _) hi.2⟩

/-- The weighted sums over all images. -/
theorem sums (i : Fin 256) (k : Fin 800) : (Region0.last (V1 m ρ) c).1 (ix2 i k)
    = ∑ n : Fin 8192, (if lab m c n = BitVec.ofNat 32 i.val then (1 : EReal) else 0) * (gs m c n k * Ideal.exp (sc m c n)) := by
  rw [(outs_at m ρ c 15 _ i k).1, sum_rows 16 512 8192 rfl, Finset.sum_range]
  refine Finset.sum_congr rfl fun t _ => ?_
  unfold add10
  rw [dif_pos t.isLt]

/-- The sum of exponentials over all images. -/
theorem total : (Region0.last (V1 m ρ) c).2 (ix2 0 0) = ∑ n : Fin 8192, Ideal.exp (sc m c n) := by
  rw [(outs_at m ρ c 15 _ 0 0).2, sum_rows 16 512 8192 rfl, Finset.sum_range]
  refine Finset.sum_congr rfl fun t _ => ?_
  unfold add11
  rw [dif_pos t.isLt]

/-- Divided, the two arrays are the first level's bags: the softmax-weighted sums of the features. -/
theorem level1 (i : Fin 256) (k : Fin 800) :
    Ideal.div ((Region0.last (V1 m ρ) c).1 (ix2 i k)) ((Region0.last (V1 m ρ) c).2 (ix2 0 0)) = bag (lab m c) (gs m c) (sc m c) i k := by
  rw [sums, total]
  exact bag_of_onehot (by decide) (lab m c) (gs m c) (sc m c) (fun n => logistic_real _) i k

end Cert.Proof.Sums
-- ==== Proof.KValue.lean ====
module

public import proofs.«01_k».proof.Proof.Sums

/-! The second kernel call's value: the second level's bags, the third level's pooling and the head. -/

@[expose] public section
set_option maxRecDepth 16384
set_option maxHeartbeats 1000000
noncomputable section
namespace Cert.Proof.KValue
open Idealize.ShloMosaic Idealize.ShloMosaic.TcCoe
open Cert.KernelIdeal Cert.KernelIdeal.Gen Cert.Proof.Maths Cert.Proof.KSums

/-- The attention scores of 256 rows, over their pooled features. -/
def sc256 (u : Fin 256 → Fin 800 → EReal) (v6 : Vec Ideal S800x128 .f32) (v8 : Vec Ideal S1x128 .f32) (v13 : Vec Ideal S128x1 .f32) (v15 : Vec Ideal S1x1 .f32) (n : Fin 256) : EReal :=
  score (u n) (fun k q => v6 (ix2 k q)) (fun q => v8 (ix2 0 q)) (fun q => v13 (ix2 q 0)) (v15 (ix2 0 0))

/-- The second level's bags, given that the two arrays divide to the first level's. -/
theorem pay1_apply (v0 : Vec Ideal S256x800 .f32) (v2 : Vec Ideal S1x1 .f32) (v6 : Vec Ideal S800x128 .f32) (v8 : Vec Ideal S1x128 .f32)
    (v13 : Vec Ideal S128x1 .f32) (v15 : Vec Ideal S1x1 .f32) (v23 : Vec Ideal S1x1x256 .i32) (u : Fin 256 → Fin 800 → EReal)
    (hu : ∀ i k, Ideal.div (v0 (ix2 i k)) (v2 (ix2 0 0)) = u i k) (i : Fin 16) (k : Fin 800) :
    k1_pay1 v0 v2 v6 v8 v13 v15 v23 (ix2 i k) = bag (fun n : Fin 256 => v23 (ix3 0 0 n)) u (sc256 u v6 v8 v13 v15) i k := by
  pointwise [k1_pay1]
  simp only [hu, onehot, Fin.sum_univ_one]
  exact bag_of_onehot (by decide) (fun n : Fin 256 => v23 (ix3 0 0 n)) u (sc256 u v6 v8 v13 v15) (fun n => logistic_real _) i k

/-- The attention scores of the last 16 rows. -/
def sc16 (u : Fin 16 → Fin 800 → EReal) (v38 : Vec Ideal S800x128 .f32) (v40 : Vec Ideal S1x128 .f32) (v45 : Vec Ideal S128x1 .f32) (v47 : Vec Ideal S1x1 .f32) (n : Fin 16) : EReal :=
  score (u n) (fun k q => v38 (ix2 k q)) (fun q => v40 (ix2 0 q)) (fun q => v45 (ix2 q 0)) (v47 (ix2 0 0))

/-- The last pooling and the head. -/
theorem pay2_apply (v37 : Vec Ideal S16x800 .f32) (v38 : Vec Ideal S800x128 .f32) (v40 : Vec Ideal S1x128 .f32)
    (v45 : Vec Ideal S128x1 .f32) (v47 : Vec Ideal S1x1 .f32) (v63 : Vec Ideal S800x256 .f32) (v65 : Vec Ideal S1x256 .f32)
    (v68 : Vec Ideal S256x1 .f32) (v70 : Vec Ideal S1x1 .f32) (u : Fin 16 → Fin 800 → EReal) (hu : ∀ i k, v37 (ix2 i k) = u i k) :
    k1_pay2 v37 v38 v40 v45 v47 v63 v65 v68 v70 (ix2 0 0)
      = head (fun k => ∑ n : Fin 16, u n k * weight (sc16 u v38 v40 v45 v47) n) (fun k q => v63 (ix2 k q)) (fun q => v65 (ix2 0 q)) (fun q => v68 (ix2 q 0)) (v70 (ix2 0 0)) := by
  pointwise [k1_pay2]
  simp only [hu, Fin.sum_univ_one]
  rfl

variable (m : (ℓ : Loc nD τ sig) → Buf (Elt Ideal) ℓ) (ρ : Dev nD → PrngReg) (c : Dev nD)

/-- The first level's bags. -/
def u1 : Fin 256 → Fin 800 → EReal := bag (lab m c) (gs m c) (sc m c)
/-- The second level's scores. -/
def s2 (n : Fin 256) : EReal := score (u1 m c n) (fun k q => (m ((c : Thread nD τ).loc main_arg11) : FVec Ideal S800x128 .f32) (ix2 k q)) (fun q => (m ((c : Thread nD τ).loc main_arg12) : FVec Ideal S128 .f32) (ix1 q))
  (fun q => (m ((c : Thread nD τ).loc main_arg13) : FVec Ideal S128x1 .f32) (ix2 q 0)) ((m ((c : Thread nD τ).loc main_arg14) : FVec Ideal S1 .f32) (ix1 0))
/-- The second level's bags. -/
def u2 : Fin 16 → Fin 800 → EReal := bag (fun n : Fin 256 => (m ((c : Thread nD τ).loc main_arg2) : IVec S256 32) (ix1 n)) (u1 m c) (s2 m c)
/-- The third level's scores. -/
def s3 (n : Fin 16) : EReal := score (u2 m c n) (fun k q => (m ((c : Thread nD τ).loc main_arg15) : FVec Ideal S800x128 .f32) (ix2 k q)) (fun q => (m ((c : Thread nD τ).loc main_arg16) : FVec Ideal S128 .f32) (ix1 q))
  (fun q => (m ((c : Thread nD τ).loc main_arg17) : FVec Ideal S128x1 .f32) (ix2 q 0)) ((m ((c : Thread nD τ).loc main_arg18) : FVec Ideal S1 .f32) (ix1 0))
/-- The value of the whole program. -/
def value : EReal := head (fun k => ∑ n : Fin 16, u2 m c n k * weight (s3 m c) n) (fun k q => (m ((c : Thread nD τ).loc main_arg19) : FVec Ideal S800x256 .f32) (ix2 k q)) (fun q => (m ((c : Thread nD τ).loc main_arg20) : FVec Ideal S256 .f32) (ix1 q))
  (fun q => (m ((c : Thread nD τ).loc main_arg21) : FVec Ideal S256x1 .f32) (ix2 q 0)) ((m ((c : Thread nD τ).loc main_arg22) : FVec Ideal S1 .f32) (ix1 0))

theorem row128 (a : FVec Ideal S128 .f32) (q : Fin 128) : (shapeCast S1x128 a shapeCasts_S128_S1x128 : FVec Ideal S1x128 .f32) (ix2 0 q) = a (ix1 q) := by
  pointwise []

theorem row256 (a : FVec Ideal S256 .f32) (q : Fin 256) : (shapeCast S1x256 a shapeCasts_S256_S1x256 : FVec Ideal S1x256 .f32) (ix2 0 q) = a (ix1 q) := by
  pointwise []

theorem row1 (a : FVec Ideal S1 .f32) : (shapeCast S1x1 a shapeCasts_S1_S1x1 : FVec Ideal S1x1 .f32) (ix2 0 0) = a (ix1 0) := by
  pointwise []

theorem labels (a : IVec S256 32) (n : Fin 256) : (shapeCast S1x1x256 a shapeCasts_S256_S1x1x256 : IVec S1x1x256 32) (ix3 0 0 n) = a (ix1 n) := by
  pointwise []

/-- The second call's result, from the launch contents. -/
theorem result_eq : Region1.result (V3 m ρ) c (ix2 0 0) = value m c := by
  unfold Region1.result
  rw [Weights.V3_sums, Weights.V3_total, Weights.V3_v2, Weights.V3_v32, Weights.V3_v33, Weights.V3_v34, Weights.V3_v35, Weights.V3_v36, Weights.V3_v37,
    show V3 m ρ c main_arg11 = m ((c : Thread nD τ).loc main_arg11) from W3_args m ρ c main_arg11 (by decide),
    show V3 m ρ c main_arg13 = m ((c : Thread nD τ).loc main_arg13) from W3_args m ρ c main_arg13 (by decide),
    show V3 m ρ c main_arg15 = m ((c : Thread nD τ).loc main_arg15) from W3_args m ρ c main_arg15 (by decide),
    show V3 m ρ c main_arg17 = m ((c : Thread nD τ).loc main_arg17) from W3_args m ρ c main_arg17 (by decide),
    show V3 m ρ c main_arg19 = m ((c : Thread nD τ).loc main_arg19) from W3_args m ρ c main_arg19 (by decide),
    show V3 m ρ c main_arg21 = m ((c : Thread nD τ).loc main_arg21) from W3_args m ρ c main_arg21 (by decide)]
  rw [pay2_apply (u := u2 m c)]
  · unfold value
    have e3 : sc16 (u2 m c) (m ((c : Thread nD τ).loc main_arg15)) (shapeCast S1x128 (m ((c : Thread nD τ).loc main_arg16) : Vec Ideal S128 .f32) shapeCasts_S128_S1x128) (m ((c : Thread nD τ).loc main_arg17)) (shapeCast S1x1 (m ((c : Thread nD τ).loc main_arg18) : Vec Ideal S1 .f32) shapeCasts_S1_S1x1) = s3 m c := by
      funext n
      unfold sc16 s3
      simp only [row128, row1]
    rw [e3]
    simp only [row256, row1]
  · intro i k
    rw [pay1_apply (u := u1 m c) (hu := fun i k => Sums.level1 m ρ c i k)]
    have e2 : sc256 (u1 m c) (m ((c : Thread nD τ).loc main_arg11)) (shapeCast S1x128 (m ((c : Thread nD τ).loc main_arg12) : Vec Ideal S128 .f32) shapeCasts_S128_S1x128) (m ((c : Thread nD τ).loc main_arg13)) (shapeCast S1x1 (m ((c : Thread nD τ).loc main_arg14) : Vec Ideal S1 .f32) shapeCasts_S1_S1x1) = s2 m c := by
      funext n
      unfold sc256 s2
      simp only [row128, row1]
    rw [e2]
    unfold u2
    congr 1
    funext n
    exact labels _ n

end Cert.Proof.KValue
-- ==== Proof.RefOps.lean ====
module

public import Idealize.ShloMosaic.Lib.Pointwise
public import Idealize.ShloMosaic.Lib.Routing.OpsPair
public import proofs.«01_k».proof.Proof.Maths

/-! The reference's two window operations at an index: the 2x2 maximum and the sum of rows by label. -/

@[expose] public section
set_option maxRecDepth 16384
noncomputable section
namespace Cert.Proof.RefOps
open Idealize.ShloMosaic Cert.Proof.Maths

/-- A word read signed is `i` exactly when it is the word of `i`. -/
theorem toInt_eq (x : BitVec 32) (i : Nat) (h : i < 2 ^ 31) : x.toInt = (i : Int) ↔ x = BitVec.ofNat 32 i := by
  have e : (BitVec.ofNat 32 i).toInt = (i : Int) := by
    rw [BitVec.toInt_eq_toNat_of_lt (by rw [BitVec.toNat_ofNat]; omega), BitVec.toNat_ofNat, Nat.mod_eq_of_lt (by omega)]
  rw [← BitVec.toInt_inj, e]

/-- Row `n` of the updates lands on the row that its label names, column by column. -/
theorem lands {N M C : Nat} (wf : ScatterDims.WF ⟨2, ![M, C]⟩ ⟨2, ![N, 1]⟩ ⟨2, ![N, C]⟩ [1] [0] [0] 1) (hM : M ≤ 2 ^ 31)
    (idx : IVec ⟨2, ![N, 1]⟩ 32) (n : Fin N) (k' : Fin C) (i : Fin M) (k : Fin C) :
    (⟨[1], [0], [0], 1, wf⟩ : ScatterDims ⟨2, ![M, C]⟩ ⟨2, ![N, 1]⟩ ⟨2, ![N, C]⟩).resultIdx? (ix2 n k') idx = some (ix2 i k)
      ↔ idx (ix2 n 0) = BitVec.ofNat 32 i.val ∧ k' = k := by
  have hw0 : (⟨[1], [0], [0], 1, wf⟩ : ScatterDims ⟨2, ![M, C]⟩ ⟨2, ![N, 1]⟩ ⟨2, ![N, C]⟩).window (ix2 n k') 0 = 0 := rfl
  have hw1 : (⟨[1], [0], [0], 1, wf⟩ : ScatterDims ⟨2, ![M, C]⟩ ⟨2, ![N, 1]⟩ ⟨2, ![N, C]⟩).window (ix2 n k') 1 = k'.val := rfl
  have hs1 : (⟨[1], [0], [0], 1, wf⟩ : ScatterDims ⟨2, ![M, C]⟩ ⟨2, ![N, 1]⟩ ⟨2, ![N, C]⟩).start (ix2 n k') idx 1 = 0 := rfl
  have hs0 : (⟨[1], [0], [0], 1, wf⟩ : ScatterDims ⟨2, ![M, C]⟩ ⟨2, ![N, 1]⟩ ⟨2, ![N, C]⟩).start (ix2 n k') idx 0 = (idx (ix2 n 0)).toInt := by
    refine congrArg (fun q => (idx q).toInt) (funext fun b => ?_)
    match b with
    | ⟨0, _⟩ => rfl
    | ⟨1, _⟩ => rfl
  refine (Routing.resultIdx?_ix2 _ _ idx i k).trans ?_
  rw [hw0, hw1, hs0, hs1, ← toInt_eq _ _ (by omega), Fin.ext_iff]
  omega

/-- The sum of rows by label, over zeros. -/
theorem scatter_rows {N M : Nat} (wf : ScatterDims.WF ⟨2, ![M, 800]⟩ ⟨2, ![N, 1]⟩ ⟨2, ![N, 800]⟩ [1] [0] [0] 1) (hM : M ≤ 2 ^ 31)
    (x : FVec Ideal ⟨2, ![M, 800]⟩ .f32) (idx : IVec ⟨2, ![N, 1]⟩ 32) (upd : FVec Ideal ⟨2, ![N, 800]⟩ .f32) (i : Fin M) (k : Fin 800) :
    Host.scatterAdd (F := Ideal) (⟨[1], [0], [0], 1, wf⟩ : ScatterDims ⟨2, ![M, 800]⟩ ⟨2, ![N, 1]⟩ ⟨2, ![N, 800]⟩) x idx upd (ix2 i k)
      = x (ix2 i k) + ∑ n ∈ Finset.univ.filter (fun n : Fin N => idx (ix2 n 0) = BitVec.ofNat 32 i.val), (upd (ix2 n k) : EReal) := by
  show Ideal.hostScatterAdd _ x idx upd (ix2 i k) = _
  unfold Ideal.hostScatterAdd
  congr 1
  rw [Finset.sum_filter, Finset.sum_filter, sum_idx2]
  refine Finset.sum_congr rfl fun n _ => ?_
  simp only [lands wf hM]
  by_cases h : idx (ix2 n 0) = BitVec.ofNat 32 i.val
  · simp only [h, true_and, if_true]
    rw [Finset.sum_ite_eq' Finset.univ k fun k' => upd (ix2 n k'), if_pos (Finset.mem_univ _)]
  · simp only [h, false_and, if_false]
    exact Finset.sum_const_zero

/-- The coordinates of the four positions of a 2x2 window. -/
theorem win : ∀ e : Fin 4, ((⟨4, ![1, 2, 2, 1]⟩ : Shape).rowMajor.symm (e : Fin (⟨4, ![1, 2, 2, 1]⟩ : Shape).numel) 0).val = 0
    ∧ ((⟨4, ![1, 2, 2, 1]⟩ : Shape).rowMajor.symm (e : Fin (⟨4, ![1, 2, 2, 1]⟩ : Shape).numel) 1).val = e.val / 2
    ∧ ((⟨4, ![1, 2, 2, 1]⟩ : Shape).rowMajor.symm (e : Fin (⟨4, ![1, 2, 2, 1]⟩ : Shape).numel) 2).val = e.val % 2
    ∧ ((⟨4, ![1, 2, 2, 1]⟩ : Shape).rowMajor.symm (e : Fin (⟨4, ![1, 2, 2, 1]⟩ : Shape).numel) 3).val = 0 := by
  decide

/-- Four steps of a left fold, each a maximum. -/
theorem fold4 {ι : Type} (f : EReal → ι → EReal) (e0 e1 e2 e3 : ι) (v a b c d : EReal) (h0 : ∀ r, f r e0 = max r a) (h1 : ∀ r, f r e1 = max r b)
    (h2 : ∀ r, f r e2 = max r c) (h3 : ∀ r, f r e3 = max r d) : [e0, e1, e2, e3].foldl f v = max (max (max (max v a) b) c) d := by
  simp only [List.foldl_cons, List.foldl_nil, h0, h1, h2, h3]

/-- The maximum of four biased positive parts is the positive part of the biased maximum. -/
theorem max4 (a b c d B : EReal) :
    max (max (max (max ⊥ (max (a + B) 0)) (max (b + B) 0)) (max (c + B) 0)) (max (d + B) 0) = max (max (max a c) (max b d) + B) 0 := by
  have hadd : ∀ p q : EReal, max p q + B = max (p + B) (q + B) := fun p q => (max_add_add_right p q B).symm
  rw [max_eq_right bot_le, hadd, hadd, hadd]
  generalize a + B = a
  generalize b + B = b
  generalize c + B = c
  generalize d + B = d
  refine eq_of_forall_ge_iff fun z => ?_
  simp only [max_le_iff]
  tauto

/-- The 2x2 maximum from minus infinity, over an array holding a biased positive part, is the positive part of the biased maximum. -/
theorem pool_layer {N H W C P Q : Nat} (hP : 2 * P ≤ H) (hQ : 2 * Q ≤ W) (x : FVec Ideal ⟨4, ![N, H, W, C]⟩ .f32) (init : FVec Ideal ⟨0, ![]⟩ .f32)
    (hinit : ∀ q, init q = (⊥ : EReal)) (h : (⟨4, ![N, H, W, C]⟩ : Shape).ReduceWindows (![1, 2, 2, 1] : Fin 4 → Nat) ![1, 2, 2, 1] ![0, 0, 0, 0] ![0, 0, 0, 0] ⟨4, ![N, P, Q, C]⟩)
    (hu : 0 < (⟨0, ![]⟩ : Shape).numel) (n : Fin N) (o : Fin C) (cv : Fin H → Fin W → EReal) (B : EReal)
    (hx : ∀ a b, x (ix4 n a b o) = max (cv a b + B) 0) (i : Fin P) (j : Fin Q) :
    (Host.reduceWindow (α := Ideal .f32) FloatOps.maximumf ![1, 2, 2, 1] ![1, 2, 2, 1] ![0, 0, 0, 0] ![0, 0, 0, 0] x init h hu (ix4 n i j o) : Ideal .f32)
      = max (max (max (cv ⟨2 * i.val, by omega⟩ ⟨2 * j.val, by omega⟩) (cv ⟨2 * i.val + 1, by omega⟩ ⟨2 * j.val, by omega⟩))
          (max (cv ⟨2 * i.val, by omega⟩ ⟨2 * j.val + 1, by omega⟩) (cv ⟨2 * i.val + 1, by omega⟩ ⟨2 * j.val + 1, by omega⟩)) + B) 0 := by
  have hl : List.finRange (⟨4, ![1, 2, 2, 1]⟩ : Shape).numel = [⟨0, by decide⟩, ⟨1, by decide⟩, ⟨2, by decide⟩, ⟨3, by decide⟩] := by decide
  have key : ∀ (e : Fin (⟨4, ![1, 2, 2, 1]⟩ : Shape).numel) (r d : Nat) (hr : r < 2) (hd : d < 2)
      (h0 : ((⟨4, ![1, 2, 2, 1]⟩ : Shape).rowMajor.symm e 0).val = 0) (h1 : ((⟨4, ![1, 2, 2, 1]⟩ : Shape).rowMajor.symm e 1).val = r)
      (h2 : ((⟨4, ![1, 2, 2, 1]⟩ : Shape).rowMajor.symm e 2).val = d) (h3 : ((⟨4, ![1, 2, 2, 1]⟩ : Shape).rowMajor.symm e 3).val = 0) (v : EReal) (dec : Decidable (∀ a : Fin 4, (![0, 0, 0, 0] : Fin 4 → Nat) a ≤ ((ix4 n i j o : (⟨4, ![N, P, Q, C]⟩ : Shape).Idx) (a.cast h.1)).val * (![1, 2, 2, 1] : Fin 4 → Nat) a + ((⟨4, ![1, 2, 2, 1]⟩ : Shape).rowMajor.symm e a).val
          ∧ ((ix4 n i j o : (⟨4, ![N, P, Q, C]⟩ : Shape).Idx) (a.cast h.1)).val * (![1, 2, 2, 1] : Fin 4 → Nat) a + ((⟨4, ![1, 2, 2, 1]⟩ : Shape).rowMajor.symm e a).val - (![0, 0, 0, 0] : Fin 4 → Nat) a < (⟨4, ![N, H, W, C]⟩ : Shape).size a)),
      (if hin : ∀ a : Fin 4, (![0, 0, 0, 0] : Fin 4 → Nat) a ≤ ((ix4 n i j o : (⟨4, ![N, P, Q, C]⟩ : Shape).Idx) (a.cast h.1)).val * (![1, 2, 2, 1] : Fin 4 → Nat) a + ((⟨4, ![1, 2, 2, 1]⟩ : Shape).rowMajor.symm e a).val
          ∧ ((ix4 n i j o : (⟨4, ![N, P, Q, C]⟩ : Shape).Idx) (a.cast h.1)).val * (![1, 2, 2, 1] : Fin 4 → Nat) a + ((⟨4, ![1, 2, 2, 1]⟩ : Shape).rowMajor.symm e a).val - (![0, 0, 0, 0] : Fin 4 → Nat) a < (⟨4, ![N, H, W, C]⟩ : Shape).size a
        then (x (fun a => ⟨((ix4 n i j o : (⟨4, ![N, P, Q, C]⟩ : Shape).Idx) (a.cast h.1)).val * (![1, 2, 2, 1] : Fin 4 → Nat) a + ((⟨4, ![1, 2, 2, 1]⟩ : Shape).rowMajor.symm e a).val - (![0, 0, 0, 0] : Fin 4 → Nat) a, (hin a).2⟩) : EReal) else v)
        = max (cv ⟨2 * i.val + r, by omega⟩ ⟨2 * j.val + d, by omega⟩ + B) 0 := by
    intro e r d hr hd h0 h1 h2 h3 v _
    rw [dif_pos]
    · refine Eq.trans (congrArg x (funext fun a => Fin.ext ?_)) (hx _ _)
      match a with
      | ⟨0, _⟩ => show n.val * 1 + ((⟨4, ![1, 2, 2, 1]⟩ : Shape).rowMajor.symm e 0).val - 0 = n.val; rw [h0]; omega
      | ⟨1, _⟩ => show i.val * 2 + ((⟨4, ![1, 2, 2, 1]⟩ : Shape).rowMajor.symm e 1).val - 0 = 2 * i.val + r; rw [h1]; omega
      | ⟨2, _⟩ => show j.val * 2 + ((⟨4, ![1, 2, 2, 1]⟩ : Shape).rowMajor.symm e 2).val - 0 = 2 * j.val + d; rw [h2]; omega
      | ⟨3, _⟩ => show o.val * 1 + ((⟨4, ![1, 2, 2, 1]⟩ : Shape).rowMajor.symm e 3).val - 0 = o.val; rw [h3]; omega
    · intro a
      match a with
      | ⟨0, _⟩ => show 0 ≤ n.val * 1 + ((⟨4, ![1, 2, 2, 1]⟩ : Shape).rowMajor.symm e 0).val ∧ n.val * 1 + ((⟨4, ![1, 2, 2, 1]⟩ : Shape).rowMajor.symm e 0).val - 0 < N; rw [h0]; omega
      | ⟨1, _⟩ => show 0 ≤ i.val * 2 + ((⟨4, ![1, 2, 2, 1]⟩ : Shape).rowMajor.symm e 1).val ∧ i.val * 2 + ((⟨4, ![1, 2, 2, 1]⟩ : Shape).rowMajor.symm e 1).val - 0 < H; rw [h1]; omega
      | ⟨2, _⟩ => show 0 ≤ j.val * 2 + ((⟨4, ![1, 2, 2, 1]⟩ : Shape).rowMajor.symm e 2).val ∧ j.val * 2 + ((⟨4, ![1, 2, 2, 1]⟩ : Shape).rowMajor.symm e 2).val - 0 < W; rw [h2]; omega
      | ⟨3, _⟩ => show 0 ≤ o.val * 1 + ((⟨4, ![1, 2, 2, 1]⟩ : Shape).rowMajor.symm e 3).val ∧ o.val * 1 + ((⟨4, ![1, 2, 2, 1]⟩ : Shape).rowMajor.symm e 3).val - 0 < C; rw [h3]; omega
  obtain ⟨A, hA⟩ : ∃ A : Fin 4 → EReal, ∀ e, A e = max (cv ⟨2 * i.val + e.val / 2, by omega⟩ ⟨2 * j.val + e.val % 2, by omega⟩ + B) 0 := ⟨_, fun _ => rfl⟩
  have step : ∀ (e : Fin 4) (r : EReal) (dec : Decidable (∀ a : Fin 4, (![0, 0, 0, 0] : Fin 4 → Nat) a ≤ ((ix4 n i j o : (⟨4, ![N, P, Q, C]⟩ : Shape).Idx) (a.cast h.1)).val * (![1, 2, 2, 1] : Fin 4 → Nat) a + ((⟨4, ![1, 2, 2, 1]⟩ : Shape).rowMajor.symm (e : Fin (⟨4, ![1, 2, 2, 1]⟩ : Shape).numel) a).val
          ∧ ((ix4 n i j o : (⟨4, ![N, P, Q, C]⟩ : Shape).Idx) (a.cast h.1)).val * (![1, 2, 2, 1] : Fin 4 → Nat) a + ((⟨4, ![1, 2, 2, 1]⟩ : Shape).rowMajor.symm (e : Fin (⟨4, ![1, 2, 2, 1]⟩ : Shape).numel) a).val - (![0, 0, 0, 0] : Fin 4 → Nat) a < (⟨4, ![N, H, W, C]⟩ : Shape).size a)), FloatOps.maximumf (F := Ideal) (φ := .f32) r (if hin : ∀ a : Fin 4, (![0, 0, 0, 0] : Fin 4 → Nat) a ≤ ((ix4 n i j o : (⟨4, ![N, P, Q, C]⟩ : Shape).Idx) (a.cast h.1)).val * (![1, 2, 2, 1] : Fin 4 → Nat) a + ((⟨4, ![1, 2, 2, 1]⟩ : Shape).rowMajor.symm (e : Fin (⟨4, ![1, 2, 2, 1]⟩ : Shape).numel) a).val
          ∧ ((ix4 n i j o : (⟨4, ![N, P, Q, C]⟩ : Shape).Idx) (a.cast h.1)).val * (![1, 2, 2, 1] : Fin 4 → Nat) a + ((⟨4, ![1, 2, 2, 1]⟩ : Shape).rowMajor.symm (e : Fin (⟨4, ![1, 2, 2, 1]⟩ : Shape).numel) a).val - (![0, 0, 0, 0] : Fin 4 → Nat) a < (⟨4, ![N, H, W, C]⟩ : Shape).size a
        then (x (fun a => ⟨((ix4 n i j o : (⟨4, ![N, P, Q, C]⟩ : Shape).Idx) (a.cast h.1)).val * (![1, 2, 2, 1] : Fin 4 → Nat) a + ((⟨4, ![1, 2, 2, 1]⟩ : Shape).rowMajor.symm (e : Fin (⟨4, ![1, 2, 2, 1]⟩ : Shape).numel) a).val - (![0, 0, 0, 0] : Fin 4 → Nat) a, (hin a).2⟩) : Ideal .f32) else init (Shape.Idx.first hu))
        = max r (A e) := fun e r _ =>
    congrArg (max r) (Eq.trans (key e (e.val / 2) (e.val % 2) (by omega) (by omega) (win e).1 (win e).2.1 (win e).2.2.1 (win e).2.2.2 _ _) (hA e).symm)
  unfold Host.reduceWindow
  dsimp only
  rw [hl]
  refine Eq.trans (fold4 _ _ _ _ _ _ (A ⟨0, by decide⟩) (A ⟨1, by decide⟩) (A ⟨2, by decide⟩) (A ⟨3, by decide⟩) ?h0 ?h1 ?h2 ?h3) ?_
  case h0 => exact fun r => step ⟨0, by decide⟩ r _
  case h1 => exact fun r => step ⟨1, by decide⟩ r _
  case h2 => exact fun r => step ⟨2, by decide⟩ r _
  case h3 => exact fun r => step ⟨3, by decide⟩ r _
  rw [hinit, hA, hA, hA, hA]
  exact max4 _ _ _ _ _

end Cert.Proof.RefOps
-- ==== Proof.RefFeat.lean ====
module

public import proofs.«01_k».proof.Proof.RefOps
public import proofs.«01_k».proof.Proof.Gen.ReferenceIdeal.Run

/-! The reference's two convolution layers, read at an index. -/

@[expose] public section
set_option maxRecDepth 16384
set_option maxHeartbeats 400000
noncomputable section
namespace Cert.Proof.RefFeat
open Idealize.ShloMosaic Idealize.ShloMosaic.TcCoe
open Cert.ReferenceIdeal Cert.ReferenceIdeal.Gen Cert.ReferenceIdeal.Value Cert.Proof.Maths

variable (V0 : Valuation τ sig (Elt Ideal))

/-- Image `n`. -/
def img (n : Fin 8192) (a b : Fin 28) : EReal := (V0 (Proc.devRef .tc main_arg0) : FVec Ideal S8192x28x28x1 .f32) (ix4 n a b 0)
/-- The first layer's filters. -/
def K1 (r d : Fin 3) (o : Fin 16) : EReal := (V0 (Proc.devRef .tc main_arg3) : FVec Ideal S3x3x1x16 .f32) (ix4 r d 0 o)
/-- The first layer's biases. -/
def B1 (o : Fin 16) : EReal := (V0 (Proc.devRef .tc main_arg4) : FVec Ideal S16 .f32) (ix1 o)
/-- The second layer's filters. -/
def K2 (r d : Fin 3) (ch : Fin 16) (o : Fin 32) : EReal := (V0 (Proc.devRef .tc main_arg5) : FVec Ideal S3x3x16x32 .f32) (ix4 r d ch o)
/-- The second layer's biases. -/
def B2 (o : Fin 32) : EReal := (V0 (Proc.devRef .tc main_arg6) : FVec Ideal S32 .f32) (ix1 o)

theorem neg_inf (q : S_.Idx) : (broadcastInDim S_ ![] bcast_S_S_ (constant S_ .f32 0xFF800000#32) : FVec Ideal S_ .f32) q = (⊥ : EReal) := by
  show Ideal.ofBits .f32 0xFF800000#32 = ⊥
  simp [Ideal.ofBits, Ideal.ieee]

/-- The reference's first layer. -/
theorem v51_apply (n : Fin 8192) (i j : Fin 13) (o : Fin 16) :
    (res_main_v51 V0 : FVec Ideal S8192x13x13x16 .f32) (ix4 n i j o) = layer1 (img V0 n) (K1 V0) (B1 V0) i j o := by
  unfold res_main_v51
  refine RefOps.pool_layer (by decide) (by decide) _ _ neg_inf _ _ n o (fun a b => conv1 (img V0 n) (K1 V0) a b o) (B1 V0 o) (fun a b => ?_) i j
  unfold conv1 img K1 B1
  generalize V0 (Proc.devRef .tc main_arg0) = x0
  generalize V0 (Proc.devRef .tc main_arg3) = x3
  generalize V0 (Proc.devRef .tc main_arg4) = x4
  simp only [Fin.sum_univ_three]
  pointwise []
  simp only [Fin.sum_univ_one, Nat.add_comm 1, Nat.add_comm 2, add_assoc]

/-- Flattening: feature `k` is row `k / 160`, column `k % 160 / 32`, channel `k % 32`. -/
theorem flat (y : FVec Ideal S8192x5x5x32 .f32) (n : Fin 8192) (k : Fin 800) :
    (shapeCast S8192x800 y shapeCasts_S8192x5x5x32_S8192x800 : FVec Ideal S8192x800 .f32) (ix2 n k)
      = y (ix4 n ⟨k.val / 160, by omega⟩ ⟨k.val % 160 / 32, by omega⟩ ⟨k.val % 32, by omega⟩) := by
  pointwise []
  exact congrArg (fun q => y (ix4 n ⟨k.val / 160, by omega⟩ q ⟨k.val % 32, by omega⟩)) (Fin.ext (by dsimp only; omega))

/-- The reference's second layer, flattened. -/
theorem v104_apply (n : Fin 8192) (k : Fin 800) :
    (res_main_v104 V0 : FVec Ideal S8192x800 .f32) (ix2 n k) = feat (img V0 n) (K1 V0) (B1 V0) (K2 V0) (B2 V0) k := by
  have hi : k.val / 160 < 5 := by omega
  have hj : k.val % 160 / 32 < 5 := by omega
  have ho : k.val % 32 < 32 := by omega
  unfold res_main_v104
  refine (flat _ n k).trans ?_
  refine RefOps.pool_layer (by decide) (by decide) _ _ neg_inf _ _ n ⟨k.val % 32, ho⟩
    (fun a b => conv2 (layer1 (img V0 n) (K1 V0) (B1 V0)) (K2 V0) a b ⟨k.val % 32, ho⟩) (B2 V0 ⟨k.val % 32, ho⟩) (fun a b => ?_) ⟨k.val / 160, hi⟩ ⟨k.val % 160 / 32, hj⟩
  have hy : layer1 (img V0 n) (K1 V0) (B1 V0) = fun a b o => (res_main_v51 V0 : FVec Ideal S8192x13x13x16 .f32) (ix4 n a b o) :=
    funext fun a => funext fun b => funext fun o => (v51_apply V0 n a b o).symm
  rw [hy]
  unfold conv2 K2 B2
  generalize res_main_v51 V0 = y
  generalize V0 (Proc.devRef .tc main_arg5) = x5
  generalize V0 (Proc.devRef .tc main_arg6) = x6
  simp only [Fin.sum_univ_three]
  pointwise []
  simp only [Nat.add_comm 1, Nat.add_comm 2, add_assoc]

end Cert.Proof.RefFeat
-- ==== Proof.RefBag.lean ====
module

public import proofs.«01_k».proof.Proof.RefFeat

/-! The reference's three pooling levels and its head, read at an index. -/

@[expose] public section
set_option maxRecDepth 16384
set_option maxHeartbeats 400000
noncomputable section
namespace Cert.Proof.RefBag
open Idealize.ShloMosaic Idealize.ShloMosaic.TcCoe
open Cert.ReferenceIdeal Cert.ReferenceIdeal.Gen Cert.ReferenceIdeal.Value Cert.Proof.Maths

variable (V0 : Valuation τ sig (Elt Ideal))

/-- A maximum over all positions of a vector, whatever always-true condition selects them. -/
theorem fold_all {N : Nat} (y : (⟨1, ![N]⟩ : Shape).Idx → EReal) (p : (⟨1, ![N]⟩ : Shape).Idx → Prop) [DecidablePred p] (hp : ∀ i, p i) :
    Finset.fold max ⊥ y (Finset.univ.filter p) = Finset.fold max ⊥ (fun n : Fin N => y (ix1 n)) Finset.univ := by
  rw [Finset.filter_true_of_mem fun i _ => hp i]
  refine eq_of_forall_ge_iff fun z => ?_
  rw [Finset.fold_max_le, Finset.fold_max_le]
  refine and_congr_right fun _ => ⟨fun h n _ => h _ (Finset.mem_univ _), fun h i _ => ?_⟩
  have e : i = ix1 (i 0) := funext fun a => by
    match a with
    | ⟨0, _⟩ => rfl
  rw [e]
  exact h _ (Finset.mem_univ _)

/-- The features of image `n`. -/
def u0 (n : Fin 8192) : Fin 800 → EReal := feat (RefFeat.img V0 n) (RefFeat.K1 V0) (RefFeat.B1 V0) (RefFeat.K2 V0) (RefFeat.B2 V0)
/-- The scores of level 1. -/
def s1 (n : Fin 8192) : EReal := score (u0 V0 n) (fun k q => (V0 (Proc.devRef .tc main_arg7) : FVec Ideal S800x128 .f32) (ix2 k q)) (fun q => (V0 (Proc.devRef .tc main_arg8) : FVec Ideal S128 .f32) (ix1 q))
  (fun q => (V0 (Proc.devRef .tc main_arg9) : FVec Ideal S128x1 .f32) (ix2 q 0)) ((V0 (Proc.devRef .tc main_arg10) : FVec Ideal S1 .f32) (ix1 0))

theorem v120_apply (n : Fin 8192) : (res_main_v120 V0 : FVec Ideal S8192 .f32) (ix1 n) = s1 V0 n := by
  have hu : u0 V0 = fun n k => (res_main_v104 V0 : FVec Ideal S8192x800 .f32) (ix2 n k) := funext fun n => funext fun k => (RefFeat.v104_apply V0 n k).symm
  unfold res_main_v120 s1
  rw [hu]
  generalize res_main_v104 V0 = y
  generalize V0 (Proc.devRef .tc main_arg7) = x1
  generalize V0 (Proc.devRef .tc main_arg8) = x2
  generalize V0 (Proc.devRef .tc main_arg9) = x3
  generalize V0 (Proc.devRef .tc main_arg10) = x4
  unfold score
  pointwise []
  rfl

/-- The exponentials of level 1, over a shift by a real number. -/
theorem v126_apply : ∃ mx : ℝ, ∀ n : Fin 8192, (res_main_v126 V0 : FVec Ideal S8192 .f32) (ix1 n) = Ideal.exp (s1 V0 n - (mx : EReal)) := by
  have hs : s1 V0 = fun n => (res_main_v120 V0 : FVec Ideal S8192 .f32) (ix1 n) := funext fun n => (v120_apply V0 n).symm
  obtain ⟨mx, hmx⟩ := fold_max_real (by decide) (s1 V0) fun n => logistic_real _
  refine ⟨mx, fun n => ?_⟩
  rw [← hmx]
  unfold res_main_v126
  rw [hs]
  generalize res_main_v120 V0 = y
  pointwise []
  refine congrArg (fun q : EReal => Ideal.exp (@HSub.hSub EReal EReal EReal _ (y (ix1 n)) q)) ?_
  rw [show Ideal.ofBits .f32 0xFF800000#32 = (⊥ : EReal) from RefFeat.neg_inf ix0]
  exact (max_eq_right bot_le).trans (fold_all y _ fun _ => Subsingleton.elim _ _)

/-- The bags of level 1. -/
def u1 : Fin 256 → Fin 800 → EReal := bag (fun n : Fin 8192 => (V0 (Proc.devRef .tc main_arg1) : IVec S8192 32) (ix1 n)) (u0 V0) (s1 V0)

theorem v136_apply (i : Fin 256) (k : Fin 800) : (res_main_v136 V0 : FVec Ideal S256x800 .f32) (ix2 i k) = u1 V0 i k := by
  have hu : u0 V0 = fun n k => (res_main_v104 V0 : FVec Ideal S8192x800 .f32) (ix2 n k) := funext fun n => funext fun k => (RefFeat.v104_apply V0 n k).symm
  obtain ⟨mx, hmx⟩ := v126_apply V0
  unfold res_main_v136 u1 bag
  refine (RefOps.scatter_rows _ (by decide) _ _ _ i k).trans ?_
  have hw : ∀ n, weight (s1 V0) n = Ideal.div ((res_main_v126 V0 : FVec Ideal S8192 .f32) (ix1 n)) (∑ q : Fin 8192, ((res_main_v126 V0 : FVec Ideal S8192 .f32) (ix1 q) : EReal)) := fun n => by
    simp only [hmx]
    exact (weight_shift (s1 V0) (fun n => logistic_real _) mx n).symm
  simp only [hw]
  rw [hu]
  generalize res_main_v104 V0 = y
  generalize res_main_v126 V0 = e
  generalize V0 (Proc.devRef .tc main_arg1) = x
  pointwise []

/-- The scores of level 2. -/
def s2 (n : Fin 256) : EReal := score (u1 V0 n) (fun k q => (V0 (Proc.devRef .tc main_arg11) : FVec Ideal S800x128 .f32) (ix2 k q)) (fun q => (V0 (Proc.devRef .tc main_arg12) : FVec Ideal S128 .f32) (ix1 q))
  (fun q => (V0 (Proc.devRef .tc main_arg13) : FVec Ideal S128x1 .f32) (ix2 q 0)) ((V0 (Proc.devRef .tc main_arg14) : FVec Ideal S1 .f32) (ix1 0))

theorem v152_apply (n : Fin 256) : (res_main_v152 V0 : FVec Ideal S256 .f32) (ix1 n) = s2 V0 n := by
  have hu : u1 V0 = fun n k => (res_main_v136 V0 : FVec Ideal S256x800 .f32) (ix2 n k) := funext fun n => funext fun k => (v136_apply V0 n k).symm
  unfold res_main_v152 s2
  rw [hu]
  generalize res_main_v136 V0 = y
  generalize V0 (Proc.devRef .tc main_arg11) = x1
  generalize V0 (Proc.devRef .tc main_arg12) = x2
  generalize V0 (Proc.devRef .tc main_arg13) = x3
  generalize V0 (Proc.devRef .tc main_arg14) = x4
  unfold score
  pointwise []
  rfl

/-- The exponentials of level 2, over a shift by a real number. -/
theorem v158_apply : ∃ mx : ℝ, ∀ n : Fin 256, (res_main_v158 V0 : FVec Ideal S256 .f32) (ix1 n) = Ideal.exp (s2 V0 n - (mx : EReal)) := by
  have hs : s2 V0 = fun n => (res_main_v152 V0 : FVec Ideal S256 .f32) (ix1 n) := funext fun n => (v152_apply V0 n).symm
  obtain ⟨mx, hmx⟩ := fold_max_real (by decide) (s2 V0) fun n => logistic_real _
  refine ⟨mx, fun n => ?_⟩
  rw [← hmx]
  unfold res_main_v158
  rw [hs]
  generalize res_main_v152 V0 = y
  pointwise []
  refine congrArg (fun q : EReal => Ideal.exp (@HSub.hSub EReal EReal EReal _ (y (ix1 n)) q)) ?_
  rw [show Ideal.ofBits .f32 0xFF800000#32 = (⊥ : EReal) from RefFeat.neg_inf ix0]
  exact (max_eq_right bot_le).trans (fold_all y _ fun _ => Subsingleton.elim _ _)

/-- The bags of level 2. -/
def u2 : Fin 16 → Fin 800 → EReal := bag (fun n : Fin 256 => (V0 (Proc.devRef .tc main_arg2) : IVec S256 32) (ix1 n)) (u1 V0) (s2 V0)

theorem v168_apply (i : Fin 16) (k : Fin 800) : (res_main_v168 V0 : FVec Ideal S16x800 .f32) (ix2 i k) = u2 V0 i k := by
  have hu : u1 V0 = fun n k => (res_main_v136 V0 : FVec Ideal S256x800 .f32) (ix2 n k) := funext fun n => funext fun k => (v136_apply V0 n k).symm
  obtain ⟨mx, hmx⟩ := v158_apply V0
  unfold res_main_v168 u2 bag
  refine (RefOps.scatter_rows _ (by decide) _ _ _ i k).trans ?_
  have hw : ∀ n, weight (s2 V0) n = Ideal.div ((res_main_v158 V0 : FVec Ideal S256 .f32) (ix1 n)) (∑ q : Fin 256, ((res_main_v158 V0 : FVec Ideal S256 .f32) (ix1 q) : EReal)) := fun n => by
    simp only [hmx]
    exact (weight_shift (s2 V0) (fun n => logistic_real _) mx n).symm
  simp only [hw]
  rw [hu]
  generalize res_main_v136 V0 = y
  generalize res_main_v158 V0 = e
  generalize V0 (Proc.devRef .tc main_arg2) = x
  pointwise []

/-- The scores of level 3. -/
def s3 (n : Fin 16) : EReal := score (u2 V0 n) (fun k q => (V0 (Proc.devRef .tc main_arg15) : FVec Ideal S800x128 .f32) (ix2 k q)) (fun q => (V0 (Proc.devRef .tc main_arg16) : FVec Ideal S128 .f32) (ix1 q))
  (fun q => (V0 (Proc.devRef .tc main_arg17) : FVec Ideal S128x1 .f32) (ix2 q 0)) ((V0 (Proc.devRef .tc main_arg18) : FVec Ideal S1 .f32) (ix1 0))

theorem v184_apply (n : Fin 16) : (res_main_v184 V0 : FVec Ideal S16 .f32) (ix1 n) = s3 V0 n := by
  have hu : u2 V0 = fun n k => (res_main_v168 V0 : FVec Ideal S16x800 .f32) (ix2 n k) := funext fun n => funext fun k => (v168_apply V0 n k).symm
  unfold res_main_v184 s3
  rw [hu]
  generalize res_main_v168 V0 = y
  generalize V0 (Proc.devRef .tc main_arg15) = x1
  generalize V0 (Proc.devRef .tc main_arg16) = x2
  generalize V0 (Proc.devRef .tc main_arg17) = x3
  generalize V0 (Proc.devRef .tc main_arg18) = x4
  unfold score
  pointwise []
  rfl

/-- The exponentials of level 3, over a shift by a real number. -/
theorem v190_apply : ∃ mx : ℝ, ∀ n : Fin 16, (res_main_v190 V0 : FVec Ideal S16 .f32) (ix1 n) = Ideal.exp (s3 V0 n - (mx : EReal)) := by
  have hs : s3 V0 = fun n => (res_main_v184 V0 : FVec Ideal S16 .f32) (ix1 n) := funext fun n => (v184_apply V0 n).symm
  obtain ⟨mx, hmx⟩ := fold_max_real (by decide) (s3 V0) fun n => logistic_real _
  refine ⟨mx, fun n => ?_⟩
  rw [← hmx]
  unfold res_main_v190
  rw [hs]
  generalize res_main_v184 V0 = y
  pointwise []
  refine congrArg (fun q : EReal => Ideal.exp (@HSub.hSub EReal EReal EReal _ (y (ix1 n)) q)) ?_
  rw [show Ideal.ofBits .f32 0xFF800000#32 = (⊥ : EReal) from RefFeat.neg_inf ix0]
  exact (max_eq_right bot_le).trans (fold_all y _ fun _ => Subsingleton.elim _ _)

/-- The reference's value. -/
def value : EReal := head (fun k => ∑ n : Fin 16, u2 V0 n k * weight (s3 V0) n) (fun k q => (V0 (Proc.devRef .tc main_arg19) : FVec Ideal S800x256 .f32) (ix2 k q)) (fun q => (V0 (Proc.devRef .tc main_arg20) : FVec Ideal S256 .f32) (ix1 q))
  (fun q => (V0 (Proc.devRef .tc main_arg21) : FVec Ideal S256x1 .f32) (ix2 q 0)) ((V0 (Proc.devRef .tc main_arg22) : FVec Ideal S1 .f32) (ix1 0))

/-- The reference's last operations: the weighted sum of sixteen rows, then the head. -/
theorem last_apply (e : FVec Ideal S16 .f32) (y : FVec Ideal S16x800 .f32) (x1 : FVec Ideal S800x256 .f32) (x2 : FVec Ideal S256 .f32) (x3 : FVec Ideal S256x1 .f32) (x4 : FVec Ideal S1 .f32) :
    (Host.divf (F := Ideal) (broadcastInDim S1x1 ![] bcast_S_S1x1 (constant S_ .f32 0x3F800000#32)) (addf (broadcastInDim S1x1 ![] bcast_S_S1x1 (constant S_ .f32 0x3F800000#32)) (Host.exp (Host.negf (addf (Host.dotGeneral dot_S1x256_S256x1_S1x1_1_0_0_1_n_n none (addf (Host.dotGeneral dot_S1x800_S800x256_S1x256_1_0_0_1_n_n none (Host.dotGeneral dot_S1x16_S16x800_S1x800_1_0_0_1_n_n none (broadcastInDim S1x16 ![1] bcast_S16_S1x16_1 (Host.divf e (broadcastInDim S16 ![0] bcast_S1_S16_0 (broadcastInDim S1 ![] bcast_S_S1 (Host.reduceAdd e (constant S_ .f32 0x00000000#32) reducesTo_S16_S_d0 h_S_))))) y) x1) (broadcastInDim S1x256 ![1] bcast_S256_S1x256_1 x2)) x3) (broadcastInDim S1x1 ![1] bcast_S1_S1x1_1 x4))))) : FVec Ideal S1x1 .f32) (ix2 0 0)
      = head (fun k => ∑ n : Fin 16, y (ix2 n k) * Ideal.div (e (ix1 n)) (∑ q : Fin 16, (e (ix1 q) : EReal))) (fun k q => x1 (ix2 k q)) (fun q => x2 (ix1 q)) (fun q => x3 (ix2 q 0)) (x4 (ix1 0)) := by
  unfold head
  pointwise []
  exact congrArg Ideal.logistic (congrArg (· + _) (Finset.sum_congr rfl fun q _ => congrArg (· * _) (congrArg (· + _) (Finset.sum_congr rfl fun k _ =>
    congrArg (· * _) (Finset.sum_congr rfl fun n _ => EReal.mul_comm _ _)))))

/-- The head over the third level is the reference's value. -/
theorem value_eq : head (fun k => ∑ n : Fin 16, @HMul.hMul EReal EReal EReal _ ((res_main_v168 V0 : FVec Ideal S16x800 .f32) (ix2 n k)) (Ideal.div ((res_main_v190 V0 : FVec Ideal S16 .f32) (ix1 n)) (∑ q : Fin 16, ((res_main_v190 V0 : FVec Ideal S16 .f32) (ix1 q) : EReal))))
      (fun k q => (V0 (Proc.devRef .tc main_arg19) : FVec Ideal S800x256 .f32) (ix2 k q)) (fun q => (V0 (Proc.devRef .tc main_arg20) : FVec Ideal S256 .f32) (ix1 q)) (fun q => (V0 (Proc.devRef .tc main_arg21) : FVec Ideal S256x1 .f32) (ix2 q 0)) ((V0 (Proc.devRef .tc main_arg22) : FVec Ideal S1 .f32) (ix1 0)) = value V0 := by
  have hu : u2 V0 = fun n k => (res_main_v168 V0 : FVec Ideal S16x800 .f32) (ix2 n k) := funext fun n => funext fun k => (v168_apply V0 n k).symm
  obtain ⟨mx, hmx⟩ := v190_apply V0
  have hw : ∀ n, weight (s3 V0) n = Ideal.div ((res_main_v190 V0 : FVec Ideal S16 .f32) (ix1 n)) (∑ q : Fin 16, ((res_main_v190 V0 : FVec Ideal S16 .f32) (ix1 q) : EReal)) := fun n => by
    simp only [hmx]
    exact (weight_shift (s3 V0) (fun n => logistic_real _) mx n).symm
  unfold value
  simp only [hw]
  rw [hu]

end Cert.Proof.RefBag
-- ==== Proof.Same.lean ====
module

public import proofs.«01_k».proof.Proof.KValue
public import proofs.«01_k».proof.Proof.RefBag

/-! The kernel's value and the reference's are the same function of equal arguments. -/

@[expose] public section
set_option maxRecDepth 16384
set_option maxHeartbeats 400000
noncomputable section
namespace Cert.Proof.Same
open Idealize.ShloMosaic Idealize.ShloMosaic.TcCoe Cert.Proof.Maths Cert

/-- On equal arguments the reference's value is the kernel's. -/
theorem value_same (V0 : Valuation ReferenceIdeal.τ ReferenceIdeal.sig (Elt Ideal))
    (m : (ℓ : Loc KernelIdeal.nD KernelIdeal.τ KernelIdeal.sig) → Buf (Elt Ideal) ℓ) (c : Dev KernelIdeal.nD)
    (h0 : V0 (Proc.devRef .tc ReferenceIdeal.main_arg0) = m ((c.tc : Thread KernelIdeal.nD KernelIdeal.τ).loc KernelIdeal.main_arg0))
    (h1 : V0 (Proc.devRef .tc ReferenceIdeal.main_arg1) = m ((c.tc : Thread KernelIdeal.nD KernelIdeal.τ).loc KernelIdeal.main_arg1))
    (h2 : V0 (Proc.devRef .tc ReferenceIdeal.main_arg2) = m ((c.tc : Thread KernelIdeal.nD KernelIdeal.τ).loc KernelIdeal.main_arg2))
    (h3 : V0 (Proc.devRef .tc ReferenceIdeal.main_arg3) = m ((c.tc : Thread KernelIdeal.nD KernelIdeal.τ).loc KernelIdeal.main_arg3))
    (h4 : V0 (Proc.devRef .tc ReferenceIdeal.main_arg4) = m ((c.tc : Thread KernelIdeal.nD KernelIdeal.τ).loc KernelIdeal.main_arg4))
    (h5 : V0 (Proc.devRef .tc ReferenceIdeal.main_arg5) = m ((c.tc : Thread KernelIdeal.nD KernelIdeal.τ).loc KernelIdeal.main_arg5))
    (h6 : V0 (Proc.devRef .tc ReferenceIdeal.main_arg6) = m ((c.tc : Thread KernelIdeal.nD KernelIdeal.τ).loc KernelIdeal.main_arg6))
    (h7 : V0 (Proc.devRef .tc ReferenceIdeal.main_arg7) = m ((c.tc : Thread KernelIdeal.nD KernelIdeal.τ).loc KernelIdeal.main_arg7))
    (h8 : V0 (Proc.devRef .tc ReferenceIdeal.main_arg8) = m ((c.tc : Thread KernelIdeal.nD KernelIdeal.τ).loc KernelIdeal.main_arg8))
    (h9 : V0 (Proc.devRef .tc ReferenceIdeal.main_arg9) = m ((c.tc : Thread KernelIdeal.nD KernelIdeal.τ).loc KernelIdeal.main_arg9))
    (h10 : V0 (Proc.devRef .tc ReferenceIdeal.main_arg10) = m ((c.tc : Thread KernelIdeal.nD KernelIdeal.τ).loc KernelIdeal.main_arg10))
    (h11 : V0 (Proc.devRef .tc ReferenceIdeal.main_arg11) = m ((c.tc : Thread KernelIdeal.nD KernelIdeal.τ).loc KernelIdeal.main_arg11))
    (h12 : V0 (Proc.devRef .tc ReferenceIdeal.main_arg12) = m ((c.tc : Thread KernelIdeal.nD KernelIdeal.τ).loc KernelIdeal.main_arg12))
    (h13 : V0 (Proc.devRef .tc ReferenceIdeal.main_arg13) = m ((c.tc : Thread KernelIdeal.nD KernelIdeal.τ).loc KernelIdeal.main_arg13))
    (h14 : V0 (Proc.devRef .tc ReferenceIdeal.main_arg14) = m ((c.tc : Thread KernelIdeal.nD KernelIdeal.τ).loc KernelIdeal.main_arg14))
    (h15 : V0 (Proc.devRef .tc ReferenceIdeal.main_arg15) = m ((c.tc : Thread KernelIdeal.nD KernelIdeal.τ).loc KernelIdeal.main_arg15))
    (h16 : V0 (Proc.devRef .tc ReferenceIdeal.main_arg16) = m ((c.tc : Thread KernelIdeal.nD KernelIdeal.τ).loc KernelIdeal.main_arg16))
    (h17 : V0 (Proc.devRef .tc ReferenceIdeal.main_arg17) = m ((c.tc : Thread KernelIdeal.nD KernelIdeal.τ).loc KernelIdeal.main_arg17))
    (h18 : V0 (Proc.devRef .tc ReferenceIdeal.main_arg18) = m ((c.tc : Thread KernelIdeal.nD KernelIdeal.τ).loc KernelIdeal.main_arg18))
    (h19 : V0 (Proc.devRef .tc ReferenceIdeal.main_arg19) = m ((c.tc : Thread KernelIdeal.nD KernelIdeal.τ).loc KernelIdeal.main_arg19))
    (h20 : V0 (Proc.devRef .tc ReferenceIdeal.main_arg20) = m ((c.tc : Thread KernelIdeal.nD KernelIdeal.τ).loc KernelIdeal.main_arg20))
    (h21 : V0 (Proc.devRef .tc ReferenceIdeal.main_arg21) = m ((c.tc : Thread KernelIdeal.nD KernelIdeal.τ).loc KernelIdeal.main_arg21))
    (h22 : V0 (Proc.devRef .tc ReferenceIdeal.main_arg22) = m ((c.tc : Thread KernelIdeal.nD KernelIdeal.τ).loc KernelIdeal.main_arg22)) :
    RefBag.value V0 = KValue.value m c := by
  have e0 : RefBag.u0 V0 = KSums.gs m c := by
    funext n k
    unfold RefBag.u0 KSums.gs RefFeat.img RefFeat.K1 RefFeat.B1 RefFeat.K2 RefFeat.B2 KSums.img
    rw [h0, h3, h4, h5, h6]
  have es1 : RefBag.s1 V0 = KSums.sc m c := by
    funext n
    unfold RefBag.s1 KSums.sc
    rw [e0, h7, h8, h9, h10]
  have e1 : RefBag.u1 V0 = KValue.u1 m c := by
    unfold RefBag.u1 KValue.u1 KSums.lab
    rw [e0, es1, h1]
  have es2 : RefBag.s2 V0 = KValue.s2 m c := by
    funext n
    unfold RefBag.s2 KValue.s2
    rw [e1, h11, h12, h13, h14]
  have e2 : RefBag.u2 V0 = KValue.u2 m c := by
    unfold RefBag.u2 KValue.u2
    rw [e1, es2, h2]
  have es3 : RefBag.s3 V0 = KValue.s3 m c := by
    funext n
    unfold RefBag.s3 KValue.s3
    rw [e2, h15, h16, h17, h18]
  unfold RefBag.value KValue.value
  rw [e2, es3, h19, h20, h21, h22]

end Cert.Proof.Same
-- ==== Proof.lean ====
/- The proof of the certificate: both programs and the reference leave their arguments unchanged and every
   counter at zero, the kernel preserves its ideal reading, and over the extended reals it computes the reference's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- A 1x1 array has one index. -/
theorem idx11 (i : Cert.KernelIdeal.S1x1.Idx) : i = ix2 0 0 := by
  funext a
  match a with
  | ⟨0, _⟩ => exact Subsingleton.elim (α := Fin 1) _ _
  | ⟨1, _⟩ => exact Subsingleton.elim (α := Fin 1) _ _

/-- On equal arguments the kernel and the reference, both exact, end with the same probability. -/
theorem value : Cert.algebraic_KernelIdeal_ReferenceIdeal := fun m g m' g' _ h => by
  refine ⟨fun c => Region1.result (Cert.KernelIdeal.Gen.V3 m g) c, KRun.run m g, ?_⟩
  refine (θ_run Cert.ReferenceIdeal.defs _ _).mono (fun r hr c => ⟨(hr c).1.trans ?_, (hr c).2⟩) (Cert.ReferenceIdeal.Value.run (F := Ideal) m' g')
  obtain ⟨h0,h1,h2,h3,h4,h5,h6,h7,h8,h9,h10,h11,h12,h13,h14,h15,h16,h17,h18,h19,h20,h21,h22⟩ := h c
  refine funext fun i => ?_
  rw [idx11 i]
  refine (RefBag.last_apply _ _ _ _ _ _).trans (Eq.trans (RefBag.value_eq (StableHlo.launchContents m' c)) (Eq.trans (Same.value_same _ m c h0 h1 h2 h3 h4 h5 h6 h7 h8 h9 h10 h11 h12 h13 h14 h15 h16 h17 h18 h19 h20 h21 h22) (KValue.result_eq m g c).symm))

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, value⟩

end Cert.Proof

end
